-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_payload [hPre_finite_payload : Cert.Pre_finite_payload.Facts] (m : (ℓ : Loc Cert.KernelIdeal.nD Cert.KernelIdeal.τ Cert.KernelIdeal.sig) → Buf (Elt Ideal) ℓ) : Prop :=
  ∀ c : Dev Cert.KernelIdeal.nD,
    (Cert.Pre_finite_payload.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_payload [hPre_finite_payload : Cert.Pre_finite_payload.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_payload.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_payload [hKernelIdeal : Cert.KernelIdeal.Facts] [hPre_finite_payload : Cert.Pre_finite_payload.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_payload m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_payload [hReferenceIdeal : Cert.ReferenceIdeal.Facts] [hPre_finite_payload : Cert.Pre_finite_payload.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_payload m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "eps" .f32 0x2B8CBCCC#32 ((1 / 1000000000000 : ℝ) : EReal)
  ∧ IdealRules.named_const.Statement Cert.KernelIdeal.κ "theta" .f32 0x3F490FDB#32 ((Real.pi * (1 / 4) : ℝ) : EReal)

def algebraic_KernelIdeal_ReferenceIdeal_pre_finite_payload [hKernelIdeal : Cert.KernelIdeal.Facts] [hReferenceIdeal : Cert.ReferenceIdeal.Facts] [hPre_finite_payload : Cert.Pre_finite_payload.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_payload m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_payload : Cert.Pre_finite_payload.Facts),
    quiescent_Kernel (hKernel := hKernel)
    ∧ quiescent_KernelIdeal (hKernelIdeal := hKernelIdeal)
    ∧ quiescent_KernelIdeal_pre_finite_payload (hKernelIdeal := hKernelIdeal) (hPre_finite_payload := hPre_finite_payload)
    ∧ quiescent_ReferenceIdeal (hReferenceIdeal := hReferenceIdeal)
    ∧ quiescent_ReferenceIdeal_pre_finite_payload (hReferenceIdeal := hReferenceIdeal) (hPre_finite_payload := hPre_finite_payload)
    ∧ preserves_Kernel_KernelIdeal
    ∧ algebraic_KernelIdeal_ReferenceIdeal_pre_finite_payload (hKernelIdeal := hKernelIdeal) (hReferenceIdeal := hReferenceIdeal) (hPre_finite_payload := hPre_finite_payload)
-- ==== Pre_finite_payload.lean ====
abbrev S4x16x128 : Shape := ⟨3, ![4, 16, 128]⟩
abbrev S4x16x128x16 : Shape := ⟨4, ![4, 16, 128, 16]⟩
abbrev S64x132 : Shape := ⟨2, ![64, 132]⟩
abbrev S64 : Shape := ⟨1, ![64]⟩
abbrev S64x64 : Shape := ⟨2, ![64, 64]⟩
abbrev S192x64 : Shape := ⟨2, ![192, 64]⟩
abbrev S192 : Shape := ⟨1, ![192]⟩
abbrev S4x64 : Shape := ⟨2, ![4, 64]⟩
abbrev S4 : Shape := ⟨1, ![4]⟩
abbrev S_ : Shape := ⟨0, ![]⟩

class Facts : Prop where
  bcast_S_S4x16x128 : S_.BroadcastsInDim S4x16x128 (![] : Fin 0 → Fin S4x16x128.rank)
  reducesTo_S4x16x128_S_d0_1_2 : S4x16x128.ReducesTo [0, 1, 2] S_
  h_S_ : 0 < S_.numel
  bcast_S_S64x132 : S_.BroadcastsInDim S64x132 (![] : Fin 0 → Fin S64x132.rank)
  reducesTo_S64x132_S_d0_1 : S64x132.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x16x128 .f32) (main_arg1 : FVec F S4x16x128x16 .f32) (main_arg2 : FVec F S4x16x128x16 .f32) (main_arg3 : FVec F S64x132 .f32) (main_arg4 : FVec F S64 .f32) (main_arg5 : FVec F S64x64 .f32) (main_arg6 : FVec F S64 .f32) (main_arg7 : FVec F S192x64 .f32) (main_arg8 : FVec F S192x64 .f32) (main_arg9 : FVec F S192 .f32) (main_arg10 : FVec F S192 .f32) (main_arg11 : FVec F S4x64 .f32) (main_arg12 : FVec F S4 .f32) : IVec S_ 1 :=
  let main_v0 : FVec F S4x16x128 .f32 := Host.absf main_arg0
  let main_cst : FVec F S_ .f32 := constant S_ .f32 0x7F800000#32
  let main_v1 : FVec F S4x16x128 .f32 := broadcastInDim S4x16x128 ![] bcast_S_S4x16x128 main_cst
  let main_v2 : IVec S4x16x128 1 := cmpf .olt main_v0 main_v1
  let main_c : IVec S_ 1 := constantI S_ 1 1#1
  let main_v3 : IVec S_ 1 := (fun x v => Host.reduce IntOp.andi x v reducesTo_S4x16x128_S_d0_1_2 h_S_) main_v2 main_c
  let main_v4 : FVec F S64x132 .f32 := Host.absf main_arg3
  let main_cst_0 : FVec F S_ .f32 := constant S_ .f32 0x7F800000#32
  let main_v5 : FVec F S64x132 .f32 := broadcastInDim S64x132 ![] bcast_S_S64x132 main_cst_0
  let main_v6 : IVec S64x132 1 := cmpf .olt main_v4 main_v5
  let main_c_1 : IVec S_ 1 := constantI S_ 1 1#1
  let main_v7 : IVec S_ 1 := (fun x v => Host.reduce IntOp.andi x v reducesTo_S64x132_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x16x128 : Shape := ⟨3, ![4, 16, 128]⟩
abbrev S4x16x128x16 : Shape := ⟨4, ![4, 16, 128, 16]⟩
abbrev S64x132 : Shape := ⟨2, ![64, 132]⟩
abbrev S64 : Shape := ⟨1, ![64]⟩
abbrev S64x64 : Shape := ⟨2, ![64, 64]⟩
abbrev S192x64 : Shape := ⟨2, ![192, 64]⟩
abbrev S192 : Shape := ⟨1, ![192]⟩
abbrev S4x64 : Shape := ⟨2, ![4, 64]⟩
abbrev S4 : Shape := ⟨1, ![4]⟩
abbrev S4x16x16x16 : Shape := ⟨4, ![4, 16, 16, 16]⟩
abbrev S16x4x16x16 : Shape := ⟨4, ![16, 4, 16, 16]⟩
abbrev S4x16x16 : Shape := ⟨3, ![4, 16, 16]⟩
abbrev S16x4x16 : Shape := ⟨3, ![16, 4, 16]⟩
abbrev S64x1 : Shape := ⟨2, ![64, 1]⟩
abbrev S1x64 : Shape := ⟨2, ![1, 64]⟩
abbrev S64x192 : Shape := ⟨2, ![64, 192]⟩
abbrev S1x192 : Shape := ⟨2, ![1, 192]⟩
abbrev S64x4 : Shape := ⟨2, ![64, 4]⟩
abbrev S1x4 : Shape := ⟨2, ![1, 4]⟩
abbrev S4x4 : Shape := ⟨2, ![4, 4]⟩
abbrev S1x1 : Shape := ⟨2, ![1, 1]⟩
abbrev S16x16 : Shape := ⟨2, ![16, 16]⟩
abbrev S1x4x16x16 : Shape := ⟨4, ![1, 4, 16, 16]⟩
abbrev S1x4x16 : Shape := ⟨3, ![1, 4, 16]⟩
abbrev S4x16 : Shape := ⟨2, ![4, 16]⟩
abbrev S4x16x1x16 : Shape := ⟨4, ![4, 16, 1, 16]⟩
abbrev S4x1x16x16 : Shape := ⟨4, ![4, 1, 16, 16]⟩
abbrev S1x16x16x1 : Shape := ⟨4, ![1, 16, 16, 1]⟩
abbrev S1x4x16x16x16 : Shape := ⟨5, ![1, 4, 16, 16, 16]⟩
abbrev S1 : Shape := ⟨1, ![1]⟩
abbrev S1x1x1x1x1 : Shape := ⟨5, ![1, 1, 1, 1, 1]⟩
abbrev S4x16x1 : Shape := ⟨3, ![4, 16, 1]⟩
abbrev S1x1x64 : Shape := ⟨3, ![1, 1, 64]⟩
abbrev S4x16x64 : Shape := ⟨3, ![4, 16, 64]⟩
abbrev S4x16x1x64 : Shape := ⟨4, ![4, 16, 1, 64]⟩
abbrev S4x1x16x64 : Shape := ⟨4, ![4, 1, 16, 64]⟩
abbrev S4x16x16x64 : Shape := ⟨4, ![4, 16, 16, 64]⟩
abbrev S1x1x1x64 : Shape := ⟨4, ![1, 1, 1, 64]⟩
abbrev S4x16x16x16x1 : Shape := ⟨5, ![4, 16, 16, 16, 1]⟩
abbrev S1x1x1x1x64 : Shape := ⟨5, ![1, 1, 1, 1, 64]⟩
abbrev S4x16x16x16x64 : Shape := ⟨5, ![4, 16, 16, 16, 64]⟩
abbrev S4x16x16x1x64 : Shape := ⟨5, ![4, 16, 16, 1, 64]⟩
abbrev S_ : Shape := ⟨0, ![]⟩

abbrev nBuf : Space → Nat
  | .hbm => 55
  | .vmem => 20
  | .smem => 0
  | _ => 0

abbrev bufTy : (tb : Table) → Fin (tcTables nBuf tb) → BufTy
  | .hbm, ⟨0, _⟩ => ⟨S4x16x128, .f32⟩
  | .hbm, ⟨1, _⟩ => ⟨S4x16x128x16, .f32⟩
  | .hbm, ⟨2, _⟩ => ⟨S4x16x128x16, .f32⟩
  | .hbm, ⟨3, _⟩ => ⟨S64x132, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192x64, .f32⟩
  | .hbm, ⟨9, _⟩ => ⟨S192, .f32⟩
  | .hbm, ⟨10, _⟩ => ⟨S192, .f32⟩
  | .hbm, ⟨11, _⟩ => ⟨S4x64, .f32⟩
  | .hbm, ⟨12, _⟩ => ⟨S4, .f32⟩
  | .hbm, ⟨13, _⟩ => ⟨S4x16x16x16, .f32⟩
  | .hbm, ⟨14, _⟩ => ⟨S16x4x16x16, .f32⟩
  | .hbm, ⟨15, _⟩ => ⟨S4x16x16x16, .f32⟩
  | .hbm, ⟨16, _⟩ => ⟨S16x4x16x16, .f32⟩
  | .hbm, ⟨17, _⟩ => ⟨S4x16x16, .f32⟩
  | .hbm, ⟨18, _⟩ => ⟨S16x4x16, .f32⟩
  | .hbm, ⟨19, _⟩ => ⟨S64x132, .bf16⟩
  | .hbm, ⟨20, _⟩ => ⟨S64x132, .f32⟩
  | .hbm, ⟨21, _⟩ => ⟨S64x1, .f32⟩
  | .hbm, ⟨22, _⟩ => ⟨S64, .f32⟩
  | .hbm, ⟨23, _⟩ => ⟨S1x64, .f32⟩
  | .hbm, ⟨24, _⟩ => ⟨S64x1, .f32⟩
  | .hbm, ⟨25, _⟩ => ⟨S64, .f32⟩
  | .hbm, ⟨26, _⟩ => ⟨S1x64, .f32⟩
  | .hbm, ⟨27, _⟩ => ⟨S64x1, .f32⟩
  | .hbm, ⟨28, _⟩ => ⟨S64, .f32⟩
  | .hbm, ⟨29, _⟩ => ⟨S1x64, .f32⟩
  | .hbm, ⟨30, _⟩ => ⟨S64x1, .f32⟩
  | .hbm, ⟨31, _⟩ => ⟨S64, .f32⟩
  | .hbm, ⟨32, _⟩ => ⟨S1x64, .f32⟩
  | .hbm, ⟨33, _⟩ => ⟨S64x64, .f32⟩
  | .hbm, ⟨34, _⟩ => ⟨S64x64, .f32⟩
  | .hbm, ⟨35, _⟩ => ⟨S64x64, .bf16⟩
  | .hbm, ⟨36, _⟩ => ⟨S64x64, .f32⟩
  | .hbm, ⟨37, _⟩ => ⟨S64x64, .f32⟩
  | .hbm, ⟨38, _⟩ => ⟨S64x64, .bf16⟩
  | .hbm, ⟨39, _⟩ => ⟨S1x64, .f32⟩
  | .hbm, ⟨40, _⟩ => ⟨S64x64, .f32⟩
  | .hbm, ⟨41, _⟩ => ⟨S64x64, .bf16⟩
  | .hbm, ⟨42, _⟩ => ⟨S1x64, .f32⟩
  | .hbm, ⟨43, _⟩ => ⟨S64x192, .f32⟩
  | .hbm, ⟨44, _⟩ => ⟨S64x192, .bf16⟩
  | .hbm, ⟨45, _⟩ => ⟨S64x192, .f32⟩
  | .hbm, ⟨46, _⟩ => ⟨S64x192, .bf16⟩
  | .hbm, ⟨47, _⟩ => ⟨S1x192, .f32⟩
  | .hbm, ⟨48, _⟩ => ⟨S1x192, .f32⟩
  | .hbm, ⟨49, _⟩ => ⟨S64x4, .f32⟩
  | .hbm, ⟨50, _⟩ => ⟨S64x4, .bf16⟩
  | .hbm, ⟨51, _⟩ => ⟨S1x4, .f32⟩
  | .hbm, ⟨52, _⟩ => ⟨S4x4, .f32⟩
  | .hbm, ⟨53, _⟩ => ⟨S1x1, .f32⟩
  | .hbm, ⟨54, _⟩ => ⟨S_, .f32⟩
  | .local _ .vmem, ⟨0, _⟩ => ⟨S16x4x16x16, .f32⟩
  | .local _ .vmem, ⟨1, _⟩ => ⟨S16x4x16x16, .f32⟩
  | .local _ .vmem, ⟨2, _⟩ => ⟨S16x4x16, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S64x64, .bf16⟩
  | .local _ .vmem, ⟨8, _⟩ => ⟨S64x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S64x192, .bf16⟩
  | .local _ .vmem, ⟨13, _⟩ => ⟨S64x192, .bf16⟩
  | .local _ .vmem, ⟨14, _⟩ => ⟨S1x192, .f32⟩
  | .local _ .vmem, ⟨15, _⟩ => ⟨S1x192, .f32⟩
  | .local _ .vmem, ⟨16, _⟩ => ⟨S64x4, .bf16⟩
  | .local _ .vmem, ⟨17, _⟩ => ⟨S1x4, .f32⟩
  | .local _ .vmem, ⟨18, _⟩ => ⟨S4x4, .f32⟩
  | .local _ .vmem, ⟨19, _⟩ => ⟨S1x1, .f32⟩
  | _, _ => ⟨S4x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v40 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v19 : BitVec 32 := Scalar.addi c0_i32 c16_i32
  let c1_i32 : BitVec 32 := 1#32
  ⟨c0_i32, v19, c1_i32⟩
def k0_off1 (k0_t1 : Fin k0_t1_loop.trips) : Fin 4 → Nat :=
  let c0_i32 : BitVec 32 := 0#32
  let c1_i32 : BitVec 32 := 1#32
  let arg20 : BitVec 32 := Scf.iv c0_i32 c1_i32 k0_t1
  let v37 : Index := Scalar.indexCast arg20
  let c0_25 : Index := 0#32
  let c0_26 : Index := 0#32
  let c0_27 : Index := 0#32
  ![v37.toNat, 0, 0, 0]
def k0_off2 (k0_t1 : Fin k0_t1_loop.trips) : Fin 3 → Nat :=
  let c0_i32 : BitVec 32 := 0#32
  let c1_i32 : BitVec 32 := 1#32
  let arg20 : BitVec 32 := Scf.iv c0_i32 c1_i32 k0_t1
  let v43 : Index := Scalar.indexCast arg20
  let c0_31 : Index := 0#32
  let c0_32 : Index := 0#32
  ![v43.toNat, 0, 0]
abbrev stage0_0 : Fin 1 → Memref sig .tc .vmem S16x4x16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x192 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x192 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x4 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== KernelIdeal.lean ====
variable {F : FTy → Type} [FloatOps F] [Named F]
def κ : String → Option EReal := fun
  | "eps" => some ((1 / 1000000000000 : ℝ) : EReal)
  | "theta" => some ((Real.pi * (1 / 4) : ℝ) : EReal)
  | _ => none
-- ==== ReferenceIdeal.lean ====
abbrev S4x16x128 : Shape := ⟨3, ![4, 16, 128]⟩
abbrev S4x16x128x16 : Shape := ⟨4, ![4, 16, 128, 16]⟩
abbrev S64x132 : Shape := ⟨2, ![64, 132]⟩
abbrev S64 : Shape := ⟨1, ![64]⟩
abbrev S64x64 : Shape := ⟨2, ![64, 64]⟩
abbrev S192x64 : Shape := ⟨2, ![192, 64]⟩
abbrev S192 : Shape := ⟨1, ![192]⟩
abbrev S4x64 : Shape := ⟨2, ![4, 64]⟩
abbrev S4 : Shape := ⟨1, ![4]⟩
abbrev S_ : Shape := ⟨0, ![]⟩
abbrev S4x240x16 : Shape := ⟨3, ![4, 240, 16]⟩
abbrev S4x16x64 : Shape := ⟨3, ![4, 16, 64]⟩
abbrev S4x16x1x16 : Shape := ⟨4, ![4, 16, 1, 16]⟩
abbrev S4x16x16 : Shape := ⟨3, ![4, 16, 16]⟩
abbrev S4x16x1 : Shape := ⟨3, ![4, 16, 1]⟩
abbrev S4x16 : Shape := ⟨2, ![4, 16]⟩
abbrev S240 : Shape := ⟨1, ![240]⟩
abbrev S240x1 : Shape := ⟨2, ![240, 1]⟩
abbrev S4x240 : Shape := ⟨2, ![4, 240]⟩
abbrev S4x240x1x1 : Shape := ⟨4, ![4, 240, 1, 1]⟩
abbrev S4x240x16x1 : Shape := ⟨4, ![4, 240, 16, 1]⟩
abbrev S4x240x64 : Shape := ⟨3, ![4, 240, 64]⟩
abbrev S4x240x1x64 : Shape := ⟨4, ![4, 240, 1, 64]⟩
abbrev S4x240x16x64 : Shape := ⟨4, ![4, 240, 16, 64]⟩
abbrev S4x240x16x132 : Shape := ⟨4, ![4, 240, 16, 132]⟩
abbrev S132x64 : Shape := ⟨2, ![132, 64]⟩
abbrev S1x1x1x64 : Shape := ⟨4, ![1, 1, 1, 64]⟩
abbrev S64x192 : Shape := ⟨2, ![64, 192]⟩
abbrev S1x192 : Shape := ⟨2, ![1, 192]⟩
abbrev S64x4 : Shape := ⟨2, ![64, 4]⟩
abbrev S4x4 : Shape := ⟨2, ![4, 4]⟩
abbrev S1x4 : Shape := ⟨2, ![1, 4]⟩

abbrev nBuf : Space → Nat
  | .hbm => 318
  | .vmem => 0
  | .smem => 0
  | _ => 0

abbrev hbmTy0_0 (i : Nat) : BufTy := match i % 128 with
  | 0 => ⟨S4x16x128, .f32⟩
  | 1 => ⟨S4x16x128x16, .f32⟩
  | 2 => ⟨S4x16x128x16, .f32⟩
  | 3 => ⟨S64x132, .f32⟩
  | 4 => ⟨S64, .f32⟩
  | 5 => ⟨S64x64, .f32⟩
  | 6 => ⟨S64, .f32⟩
  | 7 => ⟨S192x64, .f32⟩
  | 8 => ⟨S192x64, .f32⟩
  | 9 => ⟨S192, .f32⟩
  | 10 => ⟨S192, .f32⟩
  | 11 => ⟨S4x64, .f32⟩
  | 12 => ⟨S4, .f32⟩
  | 13 => ⟨S_, .f32⟩
  | 14 => ⟨S4x240x16, .f32⟩
  | 15 => ⟨S_, .f32⟩
  | 16 => ⟨S4x240x16, .f32⟩
  | 17 => ⟨S4x240x16, .f32⟩
  | 18 => ⟨S4x240x16, .f32⟩
  | 19 => ⟨S4x240x16, .f32⟩
  | 20 => ⟨S_, .f32⟩
  | 21 => ⟨S4x16x64, .f32⟩
  | 22 => ⟨S_, .i32⟩
  | 23 => ⟨S_, .f32⟩
  | 24 => ⟨S_, .i32⟩
  | 25 => ⟨S4x16x128x16, .f32⟩
  | 26 => ⟨S4x16x128x16, .f32⟩
  | 27 => ⟨S4x16x128, .f32⟩
  | 28 => ⟨S4x240x16, .f32⟩
  | 29 => ⟨S4x240x16, .f32⟩
  | 30 => ⟨S64x132, .f32⟩
  | 31 => ⟨S64, .f32⟩
  | 32 => ⟨S64x64, .f32⟩
  | 33 => ⟨S64, .f32⟩
  | 34 => ⟨S192x64, .f32⟩
  | 35 => ⟨S192, .f32⟩
  | 36 => ⟨S192x64, .f32⟩
  | 37 => ⟨S192, .f32⟩
  | 38 => ⟨S_, .i32⟩
  | 39 => ⟨S_, .i32⟩
  | 40 => ⟨S4x16x64, .f32⟩
  | 41 => ⟨S_, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S4x16x1x16, .f32⟩
  | 58 => ⟨S4x16x16, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S4x16x1x16, .f32⟩
  | 69 => ⟨S4x16x16, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S4x16x1, .f32⟩
  | 79 => ⟨S4x16, .f32⟩
  | 80 => ⟨S240, .i32⟩
  | 81 => ⟨S_, .i32⟩
  | 82 => ⟨S240, .i32⟩
  | 83 => ⟨S240, .i32⟩
  | 84 => ⟨S_, .i32⟩
  | 85 => ⟨S240, .i32⟩
  | 86 => ⟨S240, .i32⟩
  | 87 => ⟨S240, .i1⟩
  | 88 => ⟨S240, .i32⟩
  | 89 => ⟨S240, .i32⟩
  | 90 => ⟨S_, .i32⟩
  | 91 => ⟨S240, .i32⟩
  | 92 => ⟨S240, .i1⟩
  | 93 => ⟨S_, .i32⟩
  | 94 => ⟨S240, .i32⟩
  | 95 => ⟨S240, .i32⟩
  | 96 => ⟨S240, .i32⟩
  | 97 => ⟨S240x1, .i32⟩
  | 98 => ⟨S4x240x16, .f32⟩
  | 99 => ⟨S_, .i32⟩
  | 100 => ⟨S240, .i32⟩
  | 101 => ⟨S240, .i1⟩
  | 102 => ⟨S_, .i32⟩
  | 103 => ⟨S240, .i32⟩
  | 104 => ⟨S240, .i32⟩
  | 105 => ⟨S240, .i32⟩
  | 106 => ⟨S240x1, .i32⟩
  | 107 => ⟨S4x240x16, .f32⟩
  | 108 => ⟨S_, .i32⟩
  | 109 => ⟨S240, .i32⟩
  | 110 => ⟨S240, .i1⟩
  | 111 => ⟨S_, .i32⟩
  | 112 => ⟨S240, .i32⟩
  | 113 => ⟨S240, .i32⟩
  | 114 => ⟨S240, .i32⟩
  | 115 => ⟨S240x1, .i32⟩
  | 116 => ⟨S4x240x16, .f32⟩
  | 117 => ⟨S_, .i32⟩
  | 118 => ⟨S240, .i32⟩
  | 119 => ⟨S240, .i1⟩
  | 120 => ⟨S_, .i32⟩
  | 121 => ⟨S240, .i32⟩
  | 122 => ⟨S240, .i32⟩
  | 123 => ⟨S240, .i32⟩
  | 124 => ⟨S240x1, .i32⟩
  | 125 => ⟨S4x240x16, .f32⟩
  | 126 => ⟨S4x240x16, .f32⟩
  | 127 => ⟨S4x240x16, .f32⟩
  | _ => ⟨S4x16x128, .f32⟩

abbrev hbmTy0_1 (i : Nat) : BufTy := match i % 128 with
  | 0 => ⟨S4x240x16, .f32⟩
  | 1 => ⟨S4x240x16, .f32⟩
  | 2 => ⟨S4x240x16, .f32⟩
  | 3 => ⟨S4x240x16, .f32⟩
  | 4 => ⟨S4x240x16, .f32⟩
  | 5 => ⟨S4x240x16, .f32⟩
  | 6 => ⟨S4x240x16, .f32⟩
  | 7 => ⟨S4x240x16, .f32⟩
  | 8 => ⟨S4x240x16, .f32⟩
  | 9 => ⟨S4x240x16, .f32⟩
  | 10 => ⟨S4x240x16, .f32⟩
  | 11 => ⟨S4x240x16, .f32⟩
  | 12 => ⟨S4x240x16, .f32⟩
  | 13 => ⟨S4x240x16, .i1⟩
  | 14 => ⟨S4x240x16, .f32⟩
  | 15 => ⟨S_, .f32⟩
  | 16 => ⟨S4x240x16, .f32⟩
  | 17 => ⟨S4x240x16, .i1⟩
  | 18 => ⟨S4x240x16, .f32⟩
  | 19 => ⟨S_, .f32⟩
  | 20 => ⟨S4x240x16, .f32⟩
  | 21 => ⟨S4x240x16, .i1⟩
  | 22 => ⟨S4x240x16, .f32⟩
  | 23 => ⟨S_, .f32⟩
  | 24 => ⟨S4x240x16, .f32⟩
  | 25 => ⟨S4x240x16, .i1⟩
  | 26 => ⟨S4x240x16, .f32⟩
  | 27 => ⟨S_, .f32⟩
  | 28 => ⟨S_, .f32⟩
  | 29 => ⟨S_, .f32⟩
  | 30 => ⟨S_, .f32⟩
  | 31 => ⟨S4x240x16, .f32⟩
  | 32 => ⟨S4x240x16, .i1⟩
  | 33 => ⟨S4x240x16, .f32⟩
  | 34 => ⟨S_, .f32⟩
  | 35 => ⟨S4x240x16, .f32⟩
  | 36 => ⟨S4x240x16, .i1⟩
  | 37 => ⟨S4x240x16, .f32⟩
  | 38 => ⟨S_, .f32⟩
  | 39 => ⟨S4x240x16, .f32⟩
  | 40 => ⟨S4x240x16, .i1⟩
  | 41 => ⟨S4x240x16, .f32⟩
  | 42 => ⟨S_, .f32⟩
  | 43 => ⟨S4x240x16, .f32⟩
  | 44 => ⟨S4x240x16, .i1⟩
  | 45 => ⟨S4x240x16, .f32⟩
  | 46 => ⟨S_, .f32⟩
  | 47 => ⟨S4x240x16, .f32⟩
  | 48 => ⟨S4x240x16, .i1⟩
  | 49 => ⟨S4x240x16, .f32⟩
  | 50 => ⟨S_, .f32⟩
  | 51 => ⟨S4x240x16, .f32⟩
  | 52 => ⟨S4x240x16, .i1⟩
  | 53 => ⟨S4x240x16, .f32⟩
  | 54 => ⟨S_, .i32⟩
  | 55 => ⟨S240, .i32⟩
  | 56 => ⟨S240, .i1⟩
  | 57 => ⟨S_, .i32⟩
  | 58 => ⟨S240, .i32⟩
  | 59 => ⟨S240, .i32⟩
  | 60 => ⟨S240, .i32⟩
  | 61 => ⟨S240x1, .i32⟩
  | 62 => ⟨S4x240, .f32⟩
  | 63 => ⟨S4x240x1x1, .f32⟩
  | 64 => ⟨S4x240x16x1, .f32⟩
  | 65 => ⟨S_, .i32⟩
  | 66 => ⟨S240, .i32⟩
  | 67 => ⟨S240, .i1⟩
  | 68 => ⟨S_, .i32⟩
  | 69 => ⟨S240, .i32⟩
  | 70 => ⟨S240, .i32⟩
  | 71 => ⟨S240, .i32⟩
  | 72 => ⟨S240x1, .i32⟩
  | 73 => ⟨S4x240, .f32⟩
  | 74 => ⟨S4x240x1x1, .f32⟩
  | 75 => ⟨S4x240x16x1, .f32⟩
  | 76 => ⟨S_, .i32⟩
  | 77 => ⟨S240, .i32⟩
  | 78 => ⟨S240, .i1⟩
  | 79 => ⟨S_, .i32⟩
  | 80 => ⟨S240, .i32⟩
  | 81 => ⟨S240, .i32⟩
  | 82 => ⟨S240, .i32⟩
  | 83 => ⟨S240x1, .i32⟩
  | 84 => ⟨S4x240x64, .f32⟩
  | 85 => ⟨S4x240x1x64, .f32⟩
  | 86 => ⟨S4x240x16x64, .f32⟩
  | 87 => ⟨S_, .i32⟩
  | 88 => ⟨S240, .i32⟩
  | 89 => ⟨S240, .i1⟩
  | 90 => ⟨S_, .i32⟩
  | 91 => ⟨S240, .i32⟩
  | 92 => ⟨S240, .i32⟩
  | 93 => ⟨S240, .i32⟩
  | 94 => ⟨S240x1, .i32⟩
  | 95 => ⟨S4x240x64, .f32⟩
  | 96 => ⟨S4x240x1x64, .f32⟩
  | 97 => ⟨S4x240x16x64, .f32⟩
  | 98 => ⟨S4x240x16x1, .f32⟩
  | 99 => ⟨S4x240x16x1, .f32⟩
  | 100 => ⟨S4x240x16x132, .f32⟩
  | 101 => ⟨S132x64, .f32⟩
  | 102 => ⟨S4x240x16x64, .f32⟩
  | 103 => ⟨S1x1x1x64, .f32⟩
  | 104 => ⟨S4x240x16x64, .f32⟩
  | 105 => ⟨S4x240x16x64, .f32⟩
  | 106 => ⟨S_, .f32⟩
  | 107 => ⟨S4x240x16x64, .f32⟩
  | 108 => ⟨S4x240x16x64, .f32⟩
  | 109 => ⟨S64x64, .f32⟩
  | 110 => ⟨S4x240x16x64, .f32⟩
  | 111 => ⟨S1x1x1x64, .f32⟩
  | 112 => ⟨S4x240x16x64, .f32⟩
  | 113 => ⟨S4x240x16x64, .f32⟩
  | 114 => ⟨S4x240x16x1, .f32⟩
  | 115 => ⟨S4x240x16x64, .f32⟩
  | 116 => ⟨S4x240x16x64, .f32⟩
  | 117 => ⟨S_, .f32⟩
  | 118 => ⟨S4x240x64, .f32⟩
  | 119 => ⟨S_, .f32⟩
  | 120 => ⟨S4x16x64, .f32⟩
  | 121 => ⟨S_, .i32⟩
  | 122 => ⟨S240, .i32⟩
  | 123 => ⟨S240, .i1⟩
  | 124 => ⟨S_, .i32⟩
  | 125 => ⟨S240, .i32⟩
  | 126 => ⟨S240, .i32⟩
  | 127 => ⟨S240, .i32⟩
  | _ => ⟨S4x16x128, .f32⟩

abbrev hbmTy0_2 (i : Nat) : BufTy := match i % 128 with
  | 0 => ⟨S240x1, .i32⟩
  | 1 => ⟨S4x16x64, .f32⟩
  | 2 => ⟨S64x64, .f32⟩
  | 3 => ⟨S64x64, .f32⟩
  | 4 => ⟨S64x192, .f32⟩
  | 5 => ⟨S64x192, .f32⟩
  | 6 => ⟨S1x192, .f32⟩
  | 7 => ⟨S64x192, .f32⟩
  | 8 => ⟨S64x192, .f32⟩
  | 9 => ⟨S64x192, .f32⟩
  | 10 => ⟨S64x192, .f32⟩
  | 11 => ⟨S1x192, .f32⟩
  | 12 => ⟨S64x192, .f32⟩
  | 13 => ⟨S64x192, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S_, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S4x16x64, .f32⟩
  | 48 => ⟨S_, .i32⟩
  | 49 => ⟨S_, .i32⟩
  | 50 => ⟨S_, .f32⟩
  | 51 => ⟨S4x64, .f32⟩
  | 52 => ⟨S_, .f32⟩
  | 53 => ⟨S4x64, .f32⟩
  | 54 => ⟨S4x64, .f32⟩
  | 55 => ⟨S64x4, .f32⟩
  | 56 => ⟨S4x4, .f32⟩
  | 57 => ⟨S1x4, .f32⟩
  | 58 => ⟨S4x4, .f32⟩
  | 59 => ⟨S4x4, .f32⟩
  | 60 => ⟨S_, .f32⟩
  | 61 => ⟨S_, .f32⟩
  | _ => ⟨S4x16x128, .f32⟩

abbrev hbmTy (i : Nat) : BufTy := match i / 128 with
  | 0 => hbmTy0_0 i
  | 1 => hbmTy0_1 i
  | 2 => hbmTy0_2 i
  | _ => ⟨S4x16x128, .f32⟩

abbrev bufTy : (tb : Table) → Fin (tcTables nBuf tb) → BufTy
  | .hbm, ⟨i, _⟩ => hbmTy i
  | _, _ => ⟨S4x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_c : Ref sig .tc := ⟨.hbm, 22, rfl⟩
abbrev main_cst_2 : Ref sig .tc := ⟨.hbm, 23, rfl⟩
abbrev main_c_3 : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev main_v6_3 : Ref sig .tc := ⟨.hbm, 28, rfl⟩
abbrev main_v6_4 : Ref sig .tc := ⟨.hbm, 29, rfl⟩
abbrev main_v6_5 : Ref sig .tc := ⟨.hbm, 30, rfl⟩
abbrev main_v6_6 : Ref sig .tc := ⟨.hbm, 31, rfl⟩
abbrev main_v6_7 : Ref sig .tc := ⟨.hbm, 32, rfl⟩
abbrev main_v6_8 : Ref sig .tc := ⟨.hbm, 33, rfl⟩
abbrev main_v6_9 : Ref sig .tc := ⟨.hbm, 34, rfl⟩
abbrev main_v6_10 : Ref sig .tc := ⟨.hbm, 35, rfl⟩
abbrev main_v6_11 : Ref sig .tc := ⟨.hbm, 36, rfl⟩
abbrev main_v6_12 : Ref sig .tc := ⟨.hbm, 37, rfl⟩
abbrev main_v6_13 : Ref sig .tc := ⟨.hbm, 38, rfl⟩
abbrev main_v6_14 : Ref sig .tc := ⟨.hbm, 39, rfl⟩
abbrev main_v6_15 : Ref sig .tc := ⟨.hbm, 40, rfl⟩
abbrev main_v6_16 : Ref sig .tc := ⟨.hbm, 41, rfl⟩
abbrev main_while0c_c_23 : Ref sig .tc := ⟨.hbm, 42, rfl⟩
abbrev main_while0c_v16 : Ref sig .tc := ⟨.hbm, 43, rfl⟩
abbrev main_while0b_c_23 : Ref sig .tc := ⟨.hbm, 44, rfl⟩
abbrev main_while0b_v16 : Ref sig .tc := ⟨.hbm, 45, rfl⟩
abbrev main_while0b_c_24 : Ref sig .tc := ⟨.hbm, 46, rfl⟩
abbrev main_while0b_v17 : Ref sig .tc := ⟨.hbm, 47, rfl⟩
abbrev main_while0b_call0_c : Ref sig .tc := ⟨.hbm, 48, rfl⟩
abbrev main_while0b_call0_v0 : Ref sig .tc := ⟨.hbm, 49, rfl⟩
abbrev main_while0b_call0_v1 : Ref sig .tc := ⟨.hbm, 50, rfl⟩
abbrev main_while0b_call0_c_0 : Ref sig .tc := ⟨.hbm, 51, rfl⟩
abbrev main_while0b_call0_v2 : Ref sig .tc := ⟨.hbm, 52, rfl⟩
abbrev main_while0b_call0_v3 : Ref sig .tc := ⟨.hbm, 53, rfl⟩
abbrev main_while0b_call0_c_1 : Ref sig .tc := ⟨.hbm, 54, rfl⟩
abbrev main_while0b_call0_c_2 : Ref sig .tc := ⟨.hbm, 55, rfl⟩
abbrev main_while0b_call0_c_3 : Ref sig .tc := ⟨.hbm, 56, rfl⟩
abbrev main_while0b_call0_v4 : Ref sig .tc := ⟨.hbm, 57, rfl⟩
abbrev main_while0b_v18 : Ref sig .tc := ⟨.hbm, 58, rfl⟩
abbrev main_while0b_call1_c : Ref sig .tc := ⟨.hbm, 59, rfl⟩
abbrev main_while0b_call1_v0 : Ref sig .tc := ⟨.hbm, 60, rfl⟩
abbrev main_while0b_call1_v1 : Ref sig .tc := ⟨.hbm, 61, rfl⟩
abbrev main_while0b_call1_c_0 : Ref sig .tc := ⟨.hbm, 62, rfl⟩
abbrev main_while0b_call1_v2 : Ref sig .tc := ⟨.hbm, 63, rfl⟩
abbrev main_while0b_call1_v3 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_call1_c_3 : Ref sig .tc := ⟨.hbm, 67, rfl⟩
abbrev main_while0b_call1_v4 : Ref sig .tc := ⟨.hbm, 68, rfl⟩
abbrev main_while0b_v19 : Ref sig .tc := ⟨.hbm, 69, rfl⟩
abbrev main_while0b_call2_c : Ref sig .tc := ⟨.hbm, 70, rfl⟩
abbrev main_while0b_call2_v0 : Ref sig .tc := ⟨.hbm, 71, rfl⟩
abbrev main_while0b_call2_v1 : Ref sig .tc := ⟨.hbm, 72, rfl⟩
abbrev main_while0b_call2_c_0 : Ref sig .tc := ⟨.hbm, 73, rfl⟩
abbrev main_while0b_call2_v2 : Ref sig .tc := ⟨.hbm, 74, rfl⟩
abbrev main_while0b_call2_v3 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v4 : Ref sig .tc := ⟨.hbm, 78, rfl⟩
abbrev main_while0b_v20 : Ref sig .tc := ⟨.hbm, 79, rfl⟩
abbrev main_while0b_v21 : Ref sig .tc := ⟨.hbm, 80, rfl⟩
abbrev main_while0b_c_25 : Ref sig .tc := ⟨.hbm, 81, rfl⟩
abbrev main_while0b_v22 : Ref sig .tc := ⟨.hbm, 82, rfl⟩
abbrev main_while0b_v23 : Ref sig .tc := ⟨.hbm, 83, rfl⟩
abbrev main_while0b_c_26 : Ref sig .tc := ⟨.hbm, 84, rfl⟩
abbrev main_while0b_v24 : Ref sig .tc := ⟨.hbm, 85, rfl⟩
abbrev main_while0b_v25 : Ref sig .tc := ⟨.hbm, 86, rfl⟩
abbrev main_while0b_v26 : Ref sig .tc := ⟨.hbm, 87, rfl⟩
abbrev main_while0b_v27 : Ref sig .tc := ⟨.hbm, 88, rfl⟩
abbrev main_while0b_v28 : Ref sig .tc := ⟨.hbm, 89, rfl⟩
abbrev main_while0b_c_27 : Ref sig .tc := ⟨.hbm, 90, rfl⟩
abbrev main_while0b_v29 : Ref sig .tc := ⟨.hbm, 91, rfl⟩
abbrev main_while0b_v30 : Ref sig .tc := ⟨.hbm, 92, rfl⟩
abbrev main_while0b_c_28 : Ref sig .tc := ⟨.hbm, 93, rfl⟩
abbrev main_while0b_v31 : Ref sig .tc := ⟨.hbm, 94, rfl⟩
abbrev main_while0b_v32 : Ref sig .tc := ⟨.hbm, 95, rfl⟩
abbrev main_while0b_v33 : Ref sig .tc := ⟨.hbm, 96, rfl⟩
abbrev main_while0b_v34 : Ref sig .tc := ⟨.hbm, 97, rfl⟩
abbrev main_while0b_v35 : Ref sig .tc := ⟨.hbm, 98, rfl⟩
abbrev main_while0b_c_29 : Ref sig .tc := ⟨.hbm, 99, rfl⟩
abbrev main_while0b_v36 : Ref sig .tc := ⟨.hbm, 100, rfl⟩
abbrev main_while0b_v37 : Ref sig .tc := ⟨.hbm, 101, rfl⟩
abbrev main_while0b_c_30 : Ref sig .tc := ⟨.hbm, 102, rfl⟩
abbrev main_while0b_v38 : Ref sig .tc := ⟨.hbm, 103, rfl⟩
abbrev main_while0b_v39 : Ref sig .tc := ⟨.hbm, 104, rfl⟩
abbrev main_while0b_v40 : Ref sig .tc := ⟨.hbm, 105, rfl⟩
abbrev main_while0b_v41 : Ref sig .tc := ⟨.hbm, 106, rfl⟩
abbrev main_while0b_v42 : Ref sig .tc := ⟨.hbm, 107, rfl⟩
abbrev main_while0b_c_31 : Ref sig .tc := ⟨.hbm, 108, rfl⟩
abbrev main_while0b_v43 : Ref sig .tc := ⟨.hbm, 109, rfl⟩
abbrev main_while0b_v44 : Ref sig .tc := ⟨.hbm, 110, rfl⟩
abbrev main_while0b_c_32 : Ref sig .tc := ⟨.hbm, 111, rfl⟩
abbrev main_while0b_v45 : Ref sig .tc := ⟨.hbm, 112, rfl⟩
abbrev main_while0b_v46 : Ref sig .tc := ⟨.hbm, 113, rfl⟩
abbrev main_while0b_v47 : Ref sig .tc := ⟨.hbm, 114, rfl⟩
abbrev main_while0b_v48 : Ref sig .tc := ⟨.hbm, 115, rfl⟩
abbrev main_while0b_v49 : Ref sig .tc := ⟨.hbm, 116, rfl⟩
abbrev main_while0b_c_33 : Ref sig .tc := ⟨.hbm, 117, rfl⟩
abbrev main_while0b_v50 : Ref sig .tc := ⟨.hbm, 118, rfl⟩
abbrev main_while0b_v51 : Ref sig .tc := ⟨.hbm, 119, rfl⟩
abbrev main_while0b_c_34 : Ref sig .tc := ⟨.hbm, 120, rfl⟩
abbrev main_while0b_v52 : Ref sig .tc := ⟨.hbm, 121, rfl⟩
abbrev main_while0b_v53 : Ref sig .tc := ⟨.hbm, 122, rfl⟩
abbrev main_while0b_v54 : Ref sig .tc := ⟨.hbm, 123, rfl⟩
abbrev main_while0b_v55 : Ref sig .tc := ⟨.hbm, 124, rfl⟩
abbrev main_while0b_v56 : Ref sig .tc := ⟨.hbm, 125, rfl⟩
abbrev main_while0b_v57 : Ref sig .tc := ⟨.hbm, 126, rfl⟩
abbrev main_while0b_v58 : Ref sig .tc := ⟨.hbm, 127, rfl⟩
abbrev main_while0b_v59 : Ref sig .tc := ⟨.hbm, 128, rfl⟩
abbrev main_while0b_v60 : Ref sig .tc := ⟨.hbm, 129, rfl⟩
abbrev main_while0b_v61 : Ref sig .tc := ⟨.hbm, 130, rfl⟩
abbrev main_while0b_v62 : Ref sig .tc := ⟨.hbm, 131, rfl⟩
abbrev main_while0b_v63 : Ref sig .tc := ⟨.hbm, 132, rfl⟩
abbrev main_while0b_v64 : Ref sig .tc := ⟨.hbm, 133, rfl⟩
abbrev main_while0b_v65 : Ref sig .tc := ⟨.hbm, 134, rfl⟩
abbrev main_while0b_v66 : Ref sig .tc := ⟨.hbm, 135, rfl⟩
abbrev main_while0b_v67 : Ref sig .tc := ⟨.hbm, 136, rfl⟩
abbrev main_while0b_v68 : Ref sig .tc := ⟨.hbm, 137, rfl⟩
abbrev main_while0b_v69 : Ref sig .tc := ⟨.hbm, 138, rfl⟩
abbrev main_while0b_v70 : Ref sig .tc := ⟨.hbm, 139, rfl⟩
abbrev main_while0b_v71 : Ref sig .tc := ⟨.hbm, 140, rfl⟩
abbrev main_while0b_v72 : Ref sig .tc := ⟨.hbm, 141, rfl⟩
abbrev main_while0b_v73 : Ref sig .tc := ⟨.hbm, 142, rfl⟩
abbrev main_while0b_cst_35 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_cst_36 : Ref sig .tc := ⟨.hbm, 147, rfl⟩
abbrev main_while0b_v77 : Ref sig .tc := ⟨.hbm, 148, rfl⟩
abbrev main_while0b_v78 : Ref sig .tc := ⟨.hbm, 149, rfl⟩
abbrev main_while0b_v79 : Ref sig .tc := ⟨.hbm, 150, rfl⟩
abbrev main_while0b_cst_37 : Ref sig .tc := ⟨.hbm, 151, rfl⟩
abbrev main_while0b_v80 : Ref sig .tc := ⟨.hbm, 152, rfl⟩
abbrev main_while0b_v81 : Ref sig .tc := ⟨.hbm, 153, rfl⟩
abbrev main_while0b_v82 : Ref sig .tc := ⟨.hbm, 154, rfl⟩
abbrev main_while0b_cst_38 : Ref sig .tc := ⟨.hbm, 155, rfl⟩
abbrev main_while0b_v83 : Ref sig .tc := ⟨.hbm, 156, rfl⟩
abbrev main_while0b_v84 : Ref sig .tc := ⟨.hbm, 157, rfl⟩
abbrev main_while0b_cst_39 : Ref sig .tc := ⟨.hbm, 158, rfl⟩
abbrev main_while0b_v85 : Ref sig .tc := ⟨.hbm, 159, rfl⟩
abbrev main_while0b_v86 : Ref sig .tc := ⟨.hbm, 160, rfl⟩
abbrev main_while0b_v87 : Ref sig .tc := ⟨.hbm, 161, rfl⟩
abbrev main_while0b_cst_40 : Ref sig .tc := ⟨.hbm, 162, rfl⟩
abbrev main_while0b_v88 : Ref sig .tc := ⟨.hbm, 163, rfl⟩
abbrev main_while0b_v89 : Ref sig .tc := ⟨.hbm, 164, rfl⟩
abbrev main_while0b_v90 : Ref sig .tc := ⟨.hbm, 165, rfl⟩
abbrev main_while0b_cst_41 : Ref sig .tc := ⟨.hbm, 166, rfl⟩
abbrev main_while0b_v91 : Ref sig .tc := ⟨.hbm, 167, rfl⟩
abbrev main_while0b_v92 : Ref sig .tc := ⟨.hbm, 168, rfl⟩
abbrev main_while0b_v93 : Ref sig .tc := ⟨.hbm, 169, rfl⟩
abbrev main_while0b_cst_42 : Ref sig .tc := ⟨.hbm, 170, rfl⟩
abbrev main_while0b_v94 : Ref sig .tc := ⟨.hbm, 171, rfl⟩
abbrev main_while0b_v95 : Ref sig .tc := ⟨.hbm, 172, rfl⟩
abbrev main_while0b_v96 : Ref sig .tc := ⟨.hbm, 173, rfl⟩
abbrev main_while0b_cst_43 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_cst_44 : Ref sig .tc := ⟨.hbm, 178, rfl⟩
abbrev main_while0b_v100 : Ref sig .tc := ⟨.hbm, 179, rfl⟩
abbrev main_while0b_v101 : Ref sig .tc := ⟨.hbm, 180, rfl⟩
abbrev main_while0b_v102 : Ref sig .tc := ⟨.hbm, 181, rfl⟩
abbrev main_while0b_c_45 : Ref sig .tc := ⟨.hbm, 182, rfl⟩
abbrev main_while0b_v103 : Ref sig .tc := ⟨.hbm, 183, rfl⟩
abbrev main_while0b_v104 : Ref sig .tc := ⟨.hbm, 184, rfl⟩
abbrev main_while0b_c_46 : Ref sig .tc := ⟨.hbm, 185, rfl⟩
abbrev main_while0b_v105 : Ref sig .tc := ⟨.hbm, 186, rfl⟩
abbrev main_while0b_v106 : Ref sig .tc := ⟨.hbm, 187, rfl⟩
abbrev main_while0b_v107 : Ref sig .tc := ⟨.hbm, 188, rfl⟩
abbrev main_while0b_v108 : Ref sig .tc := ⟨.hbm, 189, rfl⟩
abbrev main_while0b_v109 : Ref sig .tc := ⟨.hbm, 190, rfl⟩
abbrev main_while0b_v110 : Ref sig .tc := ⟨.hbm, 191, rfl⟩
abbrev main_while0b_v111 : Ref sig .tc := ⟨.hbm, 192, rfl⟩
abbrev main_while0b_c_47 : Ref sig .tc := ⟨.hbm, 193, rfl⟩
abbrev main_while0b_v112 : Ref sig .tc := ⟨.hbm, 194, rfl⟩
abbrev main_while0b_v113 : Ref sig .tc := ⟨.hbm, 195, rfl⟩
abbrev main_while0b_c_48 : Ref sig .tc := ⟨.hbm, 196, rfl⟩
abbrev main_while0b_v114 : Ref sig .tc := ⟨.hbm, 197, rfl⟩
abbrev main_while0b_v115 : Ref sig .tc := ⟨.hbm, 198, rfl⟩
abbrev main_while0b_v116 : Ref sig .tc := ⟨.hbm, 199, rfl⟩
abbrev main_while0b_v117 : Ref sig .tc := ⟨.hbm, 200, rfl⟩
abbrev main_while0b_v118 : Ref sig .tc := ⟨.hbm, 201, rfl⟩
abbrev main_while0b_v119 : Ref sig .tc := ⟨.hbm, 202, rfl⟩
abbrev main_while0b_v120 : Ref sig .tc := ⟨.hbm, 203, rfl⟩
abbrev main_while0b_c_49 : Ref sig .tc := ⟨.hbm, 204, rfl⟩
abbrev main_while0b_v121 : Ref sig .tc := ⟨.hbm, 205, rfl⟩
abbrev main_while0b_v122 : Ref sig .tc := ⟨.hbm, 206, rfl⟩
abbrev main_while0b_c_50 : Ref sig .tc := ⟨.hbm, 207, rfl⟩
abbrev main_while0b_v123 : Ref sig .tc := ⟨.hbm, 208, rfl⟩
abbrev main_while0b_v124 : Ref sig .tc := ⟨.hbm, 209, rfl⟩
abbrev main_while0b_v125 : Ref sig .tc := ⟨.hbm, 210, rfl⟩
abbrev main_while0b_v126 : Ref sig .tc := ⟨.hbm, 211, rfl⟩
abbrev main_while0b_v127 : Ref sig .tc := ⟨.hbm, 212, rfl⟩
abbrev main_while0b_v128 : Ref sig .tc := ⟨.hbm, 213, rfl⟩
abbrev main_while0b_v129 : Ref sig .tc := ⟨.hbm, 214, rfl⟩
abbrev main_while0b_c_51 : Ref sig .tc := ⟨.hbm, 215, rfl⟩
abbrev main_while0b_v130 : Ref sig .tc := ⟨.hbm, 216, rfl⟩
abbrev main_while0b_v131 : Ref sig .tc := ⟨.hbm, 217, rfl⟩
abbrev main_while0b_c_52 : Ref sig .tc := ⟨.hbm, 218, rfl⟩
abbrev main_while0b_v132 : Ref sig .tc := ⟨.hbm, 219, rfl⟩
abbrev main_while0b_v133 : Ref sig .tc := ⟨.hbm, 220, rfl⟩
abbrev main_while0b_v134 : Ref sig .tc := ⟨.hbm, 221, rfl⟩
abbrev main_while0b_v135 : Ref sig .tc := ⟨.hbm, 222, rfl⟩
abbrev main_while0b_v136 : Ref sig .tc := ⟨.hbm, 223, rfl⟩
abbrev main_while0b_v137 : Ref sig .tc := ⟨.hbm, 224, rfl⟩
abbrev main_while0b_v138 : Ref sig .tc := ⟨.hbm, 225, rfl⟩
abbrev main_while0b_v139 : Ref sig .tc := ⟨.hbm, 226, rfl⟩
abbrev main_while0b_v140 : Ref sig .tc := ⟨.hbm, 227, rfl⟩
abbrev main_while0b_v141 : Ref sig .tc := ⟨.hbm, 228, rfl⟩
abbrev main_while0b_v142 : Ref sig .tc := ⟨.hbm, 229, rfl⟩
abbrev main_while0b_v143 : Ref sig .tc := ⟨.hbm, 230, rfl⟩
abbrev main_while0b_v144 : Ref sig .tc := ⟨.hbm, 231, rfl⟩
abbrev main_while0b_v145 : Ref sig .tc := ⟨.hbm, 232, rfl⟩
abbrev main_while0b_v146 : Ref sig .tc := ⟨.hbm, 233, rfl⟩
abbrev main_while0b_cst_53 : Ref sig .tc := ⟨.hbm, 234, rfl⟩
abbrev main_while0b_v147 : Ref sig .tc := ⟨.hbm, 235, rfl⟩
abbrev main_while0b_v148 : Ref sig .tc := ⟨.hbm, 236, rfl⟩
abbrev main_while0b_v149 : Ref sig .tc := ⟨.hbm, 237, rfl⟩
abbrev main_while0b_v150 : Ref sig .tc := ⟨.hbm, 238, rfl⟩
abbrev main_while0b_v151 : Ref sig .tc := ⟨.hbm, 239, rfl⟩
abbrev main_while0b_v152 : Ref sig .tc := ⟨.hbm, 240, rfl⟩
abbrev main_while0b_v153 : Ref sig .tc := ⟨.hbm, 241, rfl⟩
abbrev main_while0b_v154 : Ref sig .tc := ⟨.hbm, 242, rfl⟩
abbrev main_while0b_v155 : Ref sig .tc := ⟨.hbm, 243, rfl⟩
abbrev main_while0b_v156 : Ref sig .tc := ⟨.hbm, 244, rfl⟩
abbrev main_while0b_cst_54 : Ref sig .tc := ⟨.hbm, 245, rfl⟩
abbrev main_while0b_v157 : Ref sig .tc := ⟨.hbm, 246, rfl⟩
abbrev main_while0b_cst_55 : Ref sig .tc := ⟨.hbm, 247, rfl⟩
abbrev main_while0b_v158 : Ref sig .tc := ⟨.hbm, 248, rfl⟩
abbrev main_while0b_c_56 : Ref sig .tc := ⟨.hbm, 249, rfl⟩
abbrev main_while0b_v159 : Ref sig .tc := ⟨.hbm, 250, rfl⟩
abbrev main_while0b_v160 : Ref sig .tc := ⟨.hbm, 251, rfl⟩
abbrev main_while0b_c_57 : Ref sig .tc := ⟨.hbm, 252, rfl⟩
abbrev main_while0b_v161 : Ref sig .tc := ⟨.hbm, 253, rfl⟩
abbrev main_while0b_v162 : Ref sig .tc := ⟨.hbm, 254, rfl⟩
abbrev main_while0b_v163 : Ref sig .tc := ⟨.hbm, 255, rfl⟩
abbrev main_while0b_v164 : Ref sig .tc := ⟨.hbm, 256, rfl⟩
abbrev main_while0b_v165 : Ref sig .tc := ⟨.hbm, 257, rfl⟩
abbrev main_while0b_v166 : Ref sig .tc := ⟨.hbm, 258, rfl⟩
abbrev main_while0b_v167 : Ref sig .tc := ⟨.hbm, 259, rfl⟩
abbrev main_while0b_v168 : Ref sig .tc := ⟨.hbm, 260, rfl⟩
abbrev main_while0b_v169 : Ref sig .tc := ⟨.hbm, 261, rfl⟩
abbrev main_while0b_v170 : Ref sig .tc := ⟨.hbm, 262, rfl⟩
abbrev main_while0b_v171 : Ref sig .tc := ⟨.hbm, 263, rfl⟩
abbrev main_while0b_v172 : Ref sig .tc := ⟨.hbm, 264, rfl⟩
abbrev main_while0b_v173 : Ref sig .tc := ⟨.hbm, 265, rfl⟩
abbrev main_while0b_v174 : Ref sig .tc := ⟨.hbm, 266, rfl⟩
abbrev main_while0b_v175 : Ref sig .tc := ⟨.hbm, 267, rfl⟩
abbrev main_while0b_v176 : Ref sig .tc := ⟨.hbm, 268, rfl⟩
abbrev main_while0b_v177 : Ref sig .tc := ⟨.hbm, 269, rfl⟩
abbrev main_while0b_v178 : Ref sig .tc := ⟨.hbm, 270, rfl⟩
abbrev main_while0b_v179 : Ref sig .tc := ⟨.hbm, 271, rfl⟩
abbrev main_while0b_v180 : Ref sig .tc := ⟨.hbm, 272, rfl⟩
abbrev main_while0b_v181 : Ref sig .tc := ⟨.hbm, 273, rfl⟩
abbrev main_while0b_v182 : Ref sig .tc := ⟨.hbm, 274, rfl⟩
abbrev main_while0b_v183 : Ref sig .tc := ⟨.hbm, 275, rfl⟩
abbrev main_while0b_v184 : Ref sig .tc := ⟨.hbm, 276, rfl⟩
abbrev main_while0b_v185 : Ref sig .tc := ⟨.hbm, 277, rfl⟩
abbrev main_while0b_v186 : Ref sig .tc := ⟨.hbm, 278, rfl⟩
abbrev main_while0b_cst_58 : Ref sig .tc := ⟨.hbm, 279, rfl⟩
abbrev main_while0b_v187 : Ref sig .tc := ⟨.hbm, 280, rfl⟩
abbrev main_while0b_v188 : Ref sig .tc := ⟨.hbm, 281, rfl⟩
abbrev main_while0b_cst_59 : Ref sig .tc := ⟨.hbm, 282, rfl⟩
abbrev main_while0b_v189 : Ref sig .tc := ⟨.hbm, 283, rfl⟩
abbrev main_while0b_v190 : Ref sig .tc := ⟨.hbm, 284, rfl⟩
abbrev main_while0b_v191 : Ref sig .tc := ⟨.hbm, 285, rfl⟩
abbrev main_while0b_v192 : Ref sig .tc := ⟨.hbm, 286, rfl⟩
abbrev main_while0b_v193 : Ref sig .tc := ⟨.hbm, 287, rfl⟩
abbrev main_while0b_cst_60 : Ref sig .tc := ⟨.hbm, 288, rfl⟩
abbrev main_while0b_v194 : Ref sig .tc := ⟨.hbm, 289, rfl⟩
abbrev main_while0b_v195 : Ref sig .tc := ⟨.hbm, 290, rfl⟩
abbrev main_while0b_cst_61 : Ref sig .tc := ⟨.hbm, 291, rfl⟩
abbrev main_while0b_v196 : Ref sig .tc := ⟨.hbm, 292, rfl⟩
abbrev main_while0b_v197 : Ref sig .tc := ⟨.hbm, 293, rfl⟩
abbrev main_while0b_v198 : Ref sig .tc := ⟨.hbm, 294, rfl⟩
abbrev main_while0b_v199 : Ref sig .tc := ⟨.hbm, 295, rfl⟩
abbrev main_while0b_v200 : Ref sig .tc := ⟨.hbm, 296, rfl⟩
abbrev main_while0b_cst_62 : Ref sig .tc := ⟨.hbm, 297, rfl⟩
abbrev main_while0b_v201 : Ref sig .tc := ⟨.hbm, 298, rfl⟩
abbrev main_while0b_v202 : Ref sig .tc := ⟨.hbm, 299, rfl⟩
abbrev main_while0b_v203 : Ref sig .tc := ⟨.hbm, 300, rfl⟩
abbrev main_while0b_v204 : Ref sig .tc := ⟨.hbm, 301, rfl⟩
abbrev main_while0b_v205 : Ref sig .tc := ⟨.hbm, 302, rfl⟩
abbrev main_while0b_v206 : Ref sig .tc := ⟨.hbm, 303, rfl⟩
abbrev main_while0b_c_63 : Ref sig .tc := ⟨.hbm, 304, rfl⟩
abbrev main_while0b_v207 : Ref sig .tc := ⟨.hbm, 305, rfl⟩
abbrev main_cst_4 : Ref sig .tc := ⟨.hbm, 306, rfl⟩
abbrev main_v7 : Ref sig .tc := ⟨.hbm, 307, rfl⟩
abbrev main_cst_5 : Ref sig .tc := ⟨.hbm, 308, rfl⟩
abbrev main_v8 : Ref sig .tc := ⟨.hbm, 309, rfl⟩
abbrev main_v9 : Ref sig .tc := ⟨.hbm, 310, rfl⟩
abbrev main_v10 : Ref sig .tc := ⟨.hbm, 311, rfl⟩
abbrev main_v11 : Ref sig .tc := ⟨.hbm, 312, rfl⟩
abbrev main_v12 : Ref sig .tc := ⟨.hbm, 313, rfl⟩
abbrev main_v13 : Ref sig .tc := ⟨.hbm, 314, rfl⟩
abbrev main_v14 : Ref sig .tc := ⟨.hbm, 315, rfl⟩
abbrev main_cst_6 : Ref sig .tc := ⟨.hbm, 316, rfl⟩
abbrev main_v15 : Ref sig .tc := ⟨.hbm, 317, rfl⟩

abbrev nD : Nat := 1
abbrev τ : Topo := Topo.v7x

variable {F : FTy → Type} [FloatOps F]

abbrev main_while0_count : Scf.Loop 32 := ⟨0#32, 16#32, 1#32⟩
-- ==== Proof.Maths.lean ====
module

public import Idealize.ShloMosaic.Lib.Pointwise
public import Mathlib.Analysis.SpecialFunctions.Trigonometric.Arctan

@[expose] public section

set_option maxRecDepth 16384

noncomputable section

/-! The mathematics of one time step, over the extended reals, with no program in it. -/

namespace Cert.Messages

open Idealize.ShloMosaic

/-- The node an edge leaves. -/
def src (e : Fin 240) : Fin 16 := ⟨e.val / 15, by omega⟩

/-- The node an edge enters: the others in order. -/
def dst (e : Fin 240) : Fin 16 := ⟨e.val % 15 + (if e.val / 15 ≤ e.val % 15 then 1 else 0), by split <;> omega⟩

/-! ## Finite values -/

/-- A real number. -/
def IsR (x : EReal) : Prop := ∃ r : ℝ, x = (r : EReal)

theorem IsR.zero : IsR 0 := ⟨0, rfl⟩
theorem IsR.one : IsR 1 := ⟨1, rfl⟩
theorem IsR.coe (r : ℝ) : IsR (r : EReal) := ⟨r, rfl⟩

theorem IsR.add {x y : EReal} : IsR x → IsR y → IsR (x + y) := by
  rintro ⟨a, rfl⟩ ⟨b, rfl⟩; exact ⟨a + b, rfl⟩

theorem IsR.mul {x y : EReal} : IsR x → IsR y → IsR (x * y) := by
  rintro ⟨a, rfl⟩ ⟨b, rfl⟩; exact ⟨a * b, rfl⟩

theorem IsR.max {x y : EReal} : IsR x → IsR y → IsR (max x y) := by
  intro hx hy
  rcases max_choice x y with h | h <;> rw [h] <;> assumption

theorem IsR.sum {ι : Type} (s : Finset ι) (f : ι → EReal) (h : ∀ i, IsR (f i)) : IsR (∑ i ∈ s, f i) := by
  classical
  induction s using Finset.induction_on with
  | empty => exact IsR.zero
  | insert a s ha ih => rw [Finset.sum_insert ha]; exact (h a).add ih

theorem IsR.sub_self {x : EReal} : IsR x → x - x = 0 := by
  rintro ⟨a, rfl⟩
  exact EReal.sub_self (EReal.coe_ne_top a) (EReal.coe_ne_bot a)

/-- The value where it is finite, and zero elsewhere. -/
def clean (x : EReal) : EReal := if x = ⊤ ∨ x = ⊥ then 0 else x

theorem IsR.clean (x : EReal) : IsR (clean x) := by
  unfold Messages.clean
  split
  · exact IsR.zero
  · next h =>
    push Not at h
    exact ⟨x.toReal, (EReal.coe_toReal h.1 h.2).symm⟩

theorem clean_of_IsR {x : EReal} : IsR x → clean x = x := by
  rintro ⟨a, rfl⟩
  unfold clean
  rw [if_neg]
  rintro (h | h)
  · exact EReal.coe_ne_top a h
  · exact EReal.coe_ne_bot a h

theorem ofBits_inf : Ideal.ofBits .f32 2139095040#32 = ⊤ := by
  simp [Ideal.ofBits, Ideal.ieee]

theorem ofBits_neg_inf : Ideal.ofBits .f32 4286578688#32 = ⊥ := by
  simp [Ideal.ofBits, Ideal.ieee]

/-- The three tests written out: a value that differs from itself, then each infinity. -/
theorem clean_tests (x : EReal) :
    (if (if (if x ≠ x then 0 else x) = Ideal.ofBits .f32 2139095040#32 then 0 else if x ≠ x then 0 else x)
        = Ideal.ofBits .f32 4286578688#32 then 0
      else if (if x ≠ x then 0 else x) = Ideal.ofBits .f32 2139095040#32 then 0 else if x ≠ x then 0 else x) = clean x := by
  have h0 : (if x ≠ x then (0 : EReal) else x) = x := if_neg (fun h => h rfl)
  rw [h0, ofBits_inf, ofBits_neg_inf]
  unfold clean
  by_cases h1 : x = ⊤
  · simp [h1]
  · by_cases h2 : x = ⊥
    · simp [h2]
    · simp [h1, h2]

/-! ## Sums over the edges -/

/-- The edge from one node to another. -/
def edge (i j : Fin 16) : Fin 240 := ⟨15 * i.val + (if j.val < i.val then j.val else j.val - 1), by split <;> omega⟩

/-- One where the two nodes differ. -/
def off (i j : Fin 16) : EReal := if i = j then 0 else 1

theorem src_ne_dst (e : Fin 240) : src e ≠ dst e := by decide +revert +kernel
theorem edge_src_dst (e : Fin 240) : edge (src e) (dst e) = e := by decide +revert +kernel
theorem src_edge (i j : Fin 16) : i ≠ j → src (edge i j) = i := by decide +revert +kernel
theorem dst_edge (i j : Fin 16) : i ≠ j → dst (edge i j) = j := by decide +revert +kernel

/-- The edges into a node, counted by the node they leave. -/
theorem sum_into (G : Fin 16 → EReal) (j : Fin 16) :
    ∑ e ∈ Finset.univ.filter (fun e => dst e = j), G (src e) = ∑ i, if i = j then 0 else G i := by
  have h : ∑ i, (if i = j then 0 else G i) = ∑ i ∈ Finset.univ.filter (fun i => i ≠ j), G i := by
    rw [Finset.sum_filter]
    exact Finset.sum_congr rfl fun i _ => by by_cases q : i = j <;> simp [q]
  rw [h]
  refine Finset.sum_bij' (fun e _ => src e) (fun i _ => edge i j) ?_ ?_ ?_ ?_ ?_
  · intro e he
    have := (Finset.mem_filter.1 he).2
    exact Finset.mem_filter.2 ⟨Finset.mem_univ _, this ▸ src_ne_dst e⟩
  · intro i hi
    exact Finset.mem_filter.2 ⟨Finset.mem_univ _, dst_edge i j (Finset.mem_filter.1 hi).2⟩
  · intro e he
    have := (Finset.mem_filter.1 he).2
    subst this
    exact edge_src_dst e
  · intro i hi
    exact src_edge i j (Finset.mem_filter.1 hi).2
  · intro e _; rfl

/-- All edges, counted by the pair of nodes. -/
theorem sum_edges (G : Fin 16 → Fin 16 → EReal) :
    ∑ e, G (src e) (dst e) = ∑ i, ∑ j, if i = j then 0 else G i j := by
  rw [Finset.sum_comm, ← Finset.sum_fiberwise (s := Finset.univ) (g := dst)]
  refine Finset.sum_congr rfl fun j _ => ?_
  rw [← sum_into (fun i => G i j) j]
  exact Finset.sum_congr rfl fun e he => by rw [(Finset.mem_filter.1 he).2]

/-! ## Moving a factor out of a sum of nonnegative terms -/

theorem sum_mul_nonneg {ι : Type} (s : Finset ι) (f : ι → EReal) (h : ∀ i, 0 ≤ f i) (w : EReal) :
    (∑ i ∈ s, f i) * w = ∑ i ∈ s, f i * w := by
  classical
  induction s using Finset.induction_on with
  | empty => simp
  | insert a s ha ih =>
    rw [Finset.sum_insert ha, Finset.sum_insert ha, EReal.right_distrib_of_nonneg (h a) (Finset.sum_nonneg fun i _ => h i), ih]

theorem mul_sum_nonneg {ι : Type} (s : Finset ι) (f : ι → EReal) (h : ∀ i, 0 ≤ f i) (w : EReal) :
    w * (∑ i ∈ s, f i) = ∑ i ∈ s, w * f i := by
  rw [mul_comm, sum_mul_nonneg s f h]
  exact Finset.sum_congr rfl fun i _ => mul_comm _ _

/-- The first layer's row, column by column: four single columns and two blocks of 64. -/
theorem sum132 (G : Fin 132 → EReal) :
    ∑ x, G x = G 0 + (G 1 + (G 2 + (G 3 + (∑ k : Fin 64, G ⟨4 + k.val, by omega⟩ + ∑ k : Fin 64, G ⟨68 + k.val, by omega⟩)))) := by
  rw [Fin.sum_univ_succ, Fin.sum_univ_succ, Fin.sum_univ_succ, Fin.sum_univ_succ]
  refine congrArg (G 0 + ·) (congrArg (G 1 + ·) (congrArg (G 2 + ·) (congrArg (G 3 + ·) ?_)))
  refine (Fin.sum_univ_add (a := 64) (b := 64) _).trans (congrArg₂ (· + ·) ?_ ?_)
  · refine Finset.sum_congr rfl fun k _ => congrArg G (Fin.ext ?_)
    simp only [Fin.val_succ, Fin.val_castAdd]; omega
  · refine Finset.sum_congr rfl fun k _ => congrArg G (Fin.ext ?_)
    simp only [Fin.val_succ, Fin.val_natAdd]; omega

/-! ## One time step -/

/-- A value that is zero or one. -/
def IsBit (x : EReal) : Prop := x = 0 ∨ x = 1

theorem IsBit.nonneg {x : EReal} : IsBit x → 0 ≤ x := by
  rintro (rfl | rfl)
  · exact le_refl _
  · exact zero_le_one

theorem IsBit.isR {x : EReal} : IsBit x → IsR x := by
  rintro (rfl | rfl)
  · exact IsR.zero
  · exact IsR.one

/-- What a node receives: for each edge, the second layer with its bias, through the gate; summed over the edges. -/
theorem received (A : Fin 16 → Fin 16 → Fin 64 → EReal) (g : Fin 16 → Fin 16 → EReal) (W : Fin 64 → EReal) (b : EReal) (j : Fin 16)
    (hA : ∀ i f h, 0 ≤ A i f h) (hg : ∀ i f, IsBit (g i f)) :
    (∑ i, if i = j then 0 else ∑ f, (∑ h, A i f h * W h + b) * g i f)
      = ∑ h, (∑ i, ∑ f, A i f h * (g i f * off i j)) * W h + b * ∑ i, ∑ f, g i f * off i j := by
  have hb : ∀ i f, IsBit (g i f * off i j) := by
    intro i f
    unfold off
    split
    · exact Or.inl (mul_zero _)
    · rw [mul_one]; exact hg i f
  have h1 : ∀ i, (if i = j then 0 else ∑ f, (∑ h, A i f h * W h + b) * g i f)
      = ∑ f, (∑ h, A i f h * (g i f * off i j) * W h + b * (g i f * off i j)) := by
    intro i
    have h2 : ∀ f, ∑ h, A i f h * (g i f * off i j) * W h + b * (g i f * off i j)
        = (∑ h, A i f h * W h + b) * (g i f * off i j) := by
      intro f
      rcases hb i f with h0 | h0 <;> rw [h0] <;> simp
    rw [Finset.sum_congr rfl fun f _ => h2 f]
    unfold off
    split <;> simp
  have h3 : ∀ h, (∑ i, ∑ f, A i f h * (g i f * off i j)) * W h = ∑ i, ∑ f, A i f h * (g i f * off i j) * W h := by
    intro h
    rw [sum_mul_nonneg _ _ fun i => Finset.sum_nonneg fun f _ => mul_nonneg (hA i f h) (hb i f).nonneg]
    exact Finset.sum_congr rfl fun i _ => sum_mul_nonneg _ _ (fun f => mul_nonneg (hA i f h) (hb i f).nonneg) _
  have h4 : b * ∑ i, ∑ f, g i f * off i j = ∑ i, ∑ f, b * (g i f * off i j) := by
    rw [mul_sum_nonneg _ _ fun i => Finset.sum_nonneg fun f _ => (hb i f).nonneg]
    exact Finset.sum_congr rfl fun i _ => mul_sum_nonneg _ _ (fun f => (hb i f).nonneg) _
  rw [Finset.sum_congr rfl fun i _ => h1 i, Finset.sum_congr rfl fun h _ => h3 h, h4]
  rw [Finset.sum_comm (s := (Finset.univ : Finset (Fin 64)))]
  rw [← Finset.sum_add_distrib]
  refine Finset.sum_congr rfl fun i _ => ?_
  rw [Finset.sum_comm (s := (Finset.univ : Finset (Fin 64)))]
  rw [← Finset.sum_add_distrib]

/-- What the step reads at one time: the two parts of the weights and the raw samples, for each batch. -/
structure Frame where
  wr : Fin 4 → Fin 16 → Fin 16 → EReal
  wi : Fin 4 → Fin 16 → Fin 16 → EReal
  raw : Fin 4 → Fin 16 → EReal

/-- The weights of the step. -/
structure Weights where
  W1 : Fin 64 → Fin 132 → EReal
  b1 : Fin 64 → EReal
  W2 : Fin 64 → Fin 64 → EReal
  b2 : Fin 64 → EReal
  Wih : Fin 192 → Fin 64 → EReal
  bih : Fin 192 → EReal
  Whh : Fin 192 → Fin 64 → EReal
  bhh : Fin 192 → EReal

/-- Every node's state. -/
abbrev Nodes := Fin 4 → Fin 16 → Fin 64 → EReal

def re (x : Frame) (b : Fin 4) (i j f : Fin 16) : EReal := x.wr b i f * x.wr b j f + x.wi b i f * x.wi b j f
def im (x : Frame) (b : Fin 4) (i j f : Fin 16) : EReal := x.wi b i f * x.wr b j f - x.wr b i f * x.wi b j f

def mag (x : Frame) (b : Fin 4) (i j f : Fin 16) : EReal :=
  clean (Ideal.sqrt (re x b i j f * re x b i j f + im x b i j f * im x b i j f + ((1 / 1000000000000 : ℝ) : EReal)))

def angle (x : Frame) (b : Fin 4) (i j f : Fin 16) : EReal := Ideal.atan2 (im x b i j f) (re x b i j f)

def gate (x : Frame) (b : Fin 4) (i j f : Fin 16) : EReal :=
  if ((Real.pi * (1 / 4) : ℝ) : EReal) < Ideal.atan2 (Ideal.sin (angle x b i j f)) (Ideal.cos (angle x b i j f)) then 1 else 0

theorem gate_bit (x : Frame) (b : Fin 4) (i j f : Fin 16) : IsBit (gate x b i j f) := by
  unfold gate; split
  · exact Or.inr rfl
  · exact Or.inl rfl

/-- The first layer on one edge and one feature. -/
def act (x : Frame) (p : Weights) (s : Nodes) (b : Fin 4) (i j f : Fin 16) (h : Fin 64) : EReal :=
  max ((mag x b i j f * p.W1 h 0 + clean (angle x b i j f) * p.W1 h 1)
    + ((x.raw b i * p.W1 h 2 + ∑ k, s b i k * p.W1 h ⟨4 + k.val, by omega⟩)
      + (x.raw b j * p.W1 h 3 + ∑ k, s b j k * p.W1 h ⟨68 + k.val, by omega⟩) + p.b1 h)) 0

theorem act_nonneg (x : Frame) (p : Weights) (s : Nodes) (b : Fin 4) (i j f : Fin 16) (h : Fin 64) : 0 ≤ act x p s b i j f h :=
  le_max_right _ _

/-- The first layer's inputs are finite. -/
structure Finite (x : Frame) (p : Weights) (s : Nodes) : Prop where
  raw : ∀ b i, IsR (x.raw b i)
  W1 : ∀ h k, IsR (p.W1 h k)
  b1 : ∀ h, IsR (p.b1 h)
  s : ∀ b i k, IsR (s b i k)

theorem act_isR {x : Frame} {p : Weights} {s : Nodes} (q : Finite x p s) (b : Fin 4) (i j f : Fin 16) (h : Fin 64) :
    IsR (act x p s b i j f h) := by
  unfold act
  refine IsR.max (IsR.add (IsR.add ?_ ?_) (IsR.add (IsR.add (IsR.add ?_ ?_) (IsR.add ?_ ?_)) (q.b1 h))) IsR.zero
  · exact (IsR.clean _).mul (q.W1 _ _)
  · exact (IsR.clean _).mul (q.W1 _ _)
  · exact (q.raw _ _).mul (q.W1 _ _)
  · exact IsR.sum _ _ fun k => (q.s _ _ _).mul (q.W1 _ _)
  · exact (q.raw _ _).mul (q.W1 _ _)
  · exact IsR.sum _ _ fun k => (q.s _ _ _).mul (q.W1 _ _)

/-- The first layer summed over the edges into a node, through the gate. -/
def hidden (x : Frame) (p : Weights) (s : Nodes) (b : Fin 4) (j : Fin 16) (h : Fin 64) : EReal :=
  ∑ i, ∑ f, act x p s b i j f h * (gate x b i j f * off i j)

theorem off_bit (i j : Fin 16) : IsBit (off i j) := by
  unfold off; split
  · exact Or.inl rfl
  · exact Or.inr rfl

theorem hidden_isR {x : Frame} {p : Weights} {s : Nodes} (q : Finite x p s) (b : Fin 4) (j : Fin 16) (h : Fin 64) :
    IsR (hidden x p s b j h) :=
  IsR.sum _ _ fun i => IsR.sum _ _ fun f => (act_isR q b i j f h).mul ((gate_bit x b i j f).isR.mul (off_bit i j).isR)

/-- What a node receives, the second layer applied after the sum. -/
def agg (x : Frame) (p : Weights) (s : Nodes) (b : Fin 4) (j : Fin 16) (o : Fin 64) : EReal :=
  ∑ h, hidden x p s b j h * p.W2 o h + p.b2 o * ∑ i, ∑ f, gate x b i j f * off i j

/-- What a node receives, edge by edge. -/
theorem agg_edges (x : Frame) (p : Weights) (s : Nodes) (b : Fin 4) (j : Fin 16) (o : Fin 64) :
    ∑ e ∈ Finset.univ.filter (fun e => dst e = j),
        ∑ f, (∑ h, act x p s b (src e) (dst e) f h * p.W2 o h + p.b2 o) * gate x b (src e) (dst e) f
      = agg x p s b j o := by
  have h := sum_into (fun i => ∑ f, (∑ h, act x p s b i j f h * p.W2 o h + p.b2 o) * gate x b i j f) j
  rw [received (fun i f h => act x p s b i j f h) (fun i f => gate x b i j f) (p.W2 o) (p.b2 o) j
    (fun i f h => act_nonneg x p s b i j f h) (fun i f => gate_bit x b i j f)] at h
  rw [show agg x p s b j o = _ from h.symm]
  exact Finset.sum_congr rfl fun e he => by rw [(Finset.mem_filter.1 he).2]

/-- The two gates' inputs of the recurrent cell. -/
def gi (x : Frame) (p : Weights) (s : Nodes) (b : Fin 4) (j : Fin 16) (o : Fin 192) : EReal :=
  ∑ k, agg x p s b j k * p.Wih o k + p.bih o
def gh (p : Weights) (s : Nodes) (b : Fin 4) (j : Fin 16) (o : Fin 192) : EReal :=
  ∑ k, s b j k * p.Whh o k + p.bhh o

/-- The recurrent cell on one component. -/
def cell (ir hr iz hz inn hn h : EReal) : EReal :=
  (1 - Ideal.logistic (iz + hz)) * Ideal.tanh (inn + Ideal.logistic (ir + hr) * hn) + Ideal.logistic (iz + hz) * h

/-- The states after the step. -/
def next (x : Frame) (p : Weights) (s : Nodes) : Nodes := fun b j o =>
  cell (gi x p s b j ⟨o.val, by omega⟩) (gh p s b j ⟨o.val, by omega⟩)
    (gi x p s b j ⟨64 + o.val, by omega⟩) (gh p s b j ⟨64 + o.val, by omega⟩)
    (gi x p s b j ⟨128 + o.val, by omega⟩) (gh p s b j ⟨128 + o.val, by omega⟩) (s b j o)

theorem tanh_isR (x : EReal) : IsR (Ideal.tanh x) := by
  induction x using EReal.rec with
  | bot => exact ⟨-1, by change (-1 : EReal) = _; simp⟩
  | top => exact ⟨1, by change (1 : EReal) = _; simp⟩
  | coe r => exact ⟨Real.tanh r, rfl⟩

theorem logistic_isR (x : EReal) : IsR (Ideal.logistic x) := by
  unfold Ideal.logistic Ideal.div
  induction x using EReal.rec with
  | bot =>
    rw [show Ideal.exp (-(⊥ : EReal)) = ⊤ from rfl]
    rw [show (1 : EReal) + ⊤ = ⊤ from rfl, if_neg (by simp)]
    rw [EReal.inv_top]; exact ⟨0, by simp⟩
  | top =>
    rw [show Ideal.exp (-(⊤ : EReal)) = 0 from rfl, add_zero, if_neg one_ne_zero]
    exact ⟨1, by rw [show (1 : EReal) = ((1 : ℝ) : EReal) from rfl, ← EReal.coe_inv, ← EReal.coe_mul]; norm_num⟩
  | coe r =>
    rw [show Ideal.exp (-(r : EReal)) = ((Real.exp (-r) : ℝ) : EReal) from rfl]
    rw [show (1 : EReal) + ((Real.exp (-r) : ℝ) : EReal) = ((1 + Real.exp (-r) : ℝ) : EReal) from rfl]
    have hp : (0 : ℝ) < 1 + Real.exp (-r) := by positivity
    rw [if_neg (by rw [show (0 : EReal) = ((0 : ℝ) : EReal) from rfl, EReal.coe_eq_coe_iff]; exact hp.ne')]
    exact ⟨(1 + Real.exp (-r))⁻¹, by rw [one_mul, EReal.coe_inv]⟩

theorem IsR.one_sub {x : EReal} : IsR x → IsR (1 - x) := by
  rintro ⟨a, rfl⟩; exact ⟨1 - a, rfl⟩

theorem next_isR (x : Frame) (p : Weights) (s : Nodes) (h : ∀ b i k, IsR (s b i k)) : ∀ b i k, IsR (next x p s b i k) := by
  intro b i k
  exact (((logistic_isR _).one_sub).mul (tanh_isR _)).add ((logistic_isR _).mul (h b i k))

/-- The number of open gates of a step. -/
def open_ (x : Frame) : EReal := ∑ b, ∑ i, ∑ j, ∑ f, gate x b i j f * off i j

theorem open_edges (x : Frame) : ∑ b, ∑ e, ∑ f, gate x b (src e) (dst e) f = open_ x := by
  refine Finset.sum_congr rfl fun b _ => ?_
  rw [sum_edges (fun i j => ∑ f, gate x b i j f)]
  refine Finset.sum_congr rfl fun i _ => Finset.sum_congr rfl fun j _ => ?_
  unfold off
  split <;> simp

/-- The states after `n` steps, from zero. -/
def states (x : ℕ → Frame) (p : Weights) : ℕ → Nodes
  | 0 => fun _ _ _ => 0
  | n + 1 => next (x n) p (states x p n)

theorem states_isR (x : ℕ → Frame) (p : Weights) : ∀ n b i k, IsR (states x p n b i k)
  | 0 => fun _ _ _ => IsR.zero
  | n + 1 => next_isR _ _ _ (states_isR x p n)

/-- The open gates of the first `n` steps. -/
def opened (x : ℕ → Frame) : ℕ → EReal
  | 0 => 0
  | n + 1 => opened x n + open_ (x n)

/-- The class scores from the last states. -/
def scores (Wc : Fin 4 → Fin 64 → EReal) (bc : Fin 4 → EReal) (s : Nodes) (b c : Fin 4) : EReal :=
  ∑ k, Ideal.div (∑ i, s b i k) (Ideal.ofBits .f32 0x41800000#32) * Wc c k + bc c

end Cert.Messages

end
-- ==== Proof.KPay.lean ====
module

public import proofs.«01_k».proof.Proof.Gen.KernelIdeal.Skeleton
public import proofs.«01_k».proof.Proof.Maths

@[expose] public section

set_option maxRecDepth 16384

noncomputable section

namespace Cert.KernelIdeal.Trip

open Idealize.ShloMosaic Idealize.ShloMosaic.TcCoe Cert.KernelIdeal Cert.KernelIdeal.Gen Cert.Messages

/-- The samples of one time, from the three slices that a trip loads. -/
def frame (L0 L1 : Vec Ideal S1x4x16x16 .f32) (L2 : Vec Ideal S1x4x16 .f32) : Messages.Frame where
  wr := fun b n f => L0 (ix4 0 b n f)
  wi := fun b n f => L1 (ix4 0 b n f)
  raw := fun b n => L2 (ix3 0 b n)

variable (L0 L1 : Vec Ideal S1x4x16x16 .f32) (L2 : Vec Ideal S1x4x16 .f32)

theorem pay4_apply (b : Fin 4) (n : Fin 16) : k0_pay19 (k0_pay4 (F := Ideal) L2) (ix2 b n) = (frame L0 L1 L2).raw b n := by
  pointwise [k0_pay19, k0_pay4, frame]

theorem pay9_apply (b : Fin 4) (i j f : Fin 16) : k0_pay9 (F := Ideal) L0 L1 (ix4 b i j f) = re (frame L0 L1 L2) b i j f := by
  pointwise [k0_pay9, k0_pay5, k0_pay6, k0_pay7, k0_pay8, k0_pay2, k0_pay3, re, frame]

theorem pay10_apply (b : Fin 4) (i j f : Fin 16) : k0_pay10 (F := Ideal) L0 L1 (ix4 b i j f) = im (frame L0 L1 L2) b i j f := by
  pointwise [k0_pay10, k0_pay5, k0_pay6, k0_pay7, k0_pay8, k0_pay2, k0_pay3, im, frame]

theorem eps_eq : (Named.named κ "eps" 730643660#32 : Ideal .f32) = ((1 / 1000000000000 : ℝ) : EReal) := rfl

theorem theta_eq : (Named.named κ "theta" 1061752795#32 : Ideal .f32) = ((Real.pi * (1 / 4) : ℝ) : EReal) := rfl

theorem pay11_apply (b : Fin 4) (i j f : Fin 16) :
    k0_pay17 (k0_pay11 (F := Ideal) L0 L1) (ix4 b i j f) = mag (frame L0 L1 L2) b i j f := by
  pointwise [k0_pay17, k0_pay11, pay9_apply L0 L1 L2, pay10_apply L0 L1 L2]
  exact clean_tests _

theorem pay12_apply (b : Fin 4) (i j f : Fin 16) :
    k0_pay18 (k0_pay12 (F := Ideal) L0 L1) (ix4 b i j f) = clean (angle (frame L0 L1 L2) b i j f) := by
  pointwise [k0_pay18, k0_pay12, pay9_apply L0 L1 L2, pay10_apply L0 L1 L2]
  exact clean_tests _

/-- A bit read as a signed word of 32 bits, as a number. -/
theorem bit_value (w : BitVec 1) : (FloatOps.sitofp FTy.f32 (BitVec.setWidth 32 w) : Ideal .f32) = if w = 1#1 then 1 else 0 := by
  change (((BitVec.setWidth 32 w).toInt : ℝ) : EReal) = _
  have h : w = 0#1 ∨ w = 1#1 := by decide +revert
  rcases h with rfl | rfl
  · rw [show (BitVec.setWidth 32 0#1).toInt = 0 by decide, if_neg (by decide)]; simp
  · rw [show (BitVec.setWidth 32 1#1).toInt = 1 by decide, if_pos rfl]; simp

theorem differ (i j : Fin 16) :
    IntOp.cmpi CmpIPredicate.ne (BitVec.ofNat 32 i.val) (BitVec.ofNat 32 j.val) = if i = j then 0#1 else 1#1 := by
  decide +revert +kernel

theorem pay25_apply (i j : Fin 16) : k0_pay25 (F := Ideal) (ix2 i j) = off i j := by
  pointwise [k0_pay25]
  rw [bit_value, differ]
  unfold off
  by_cases h : i = j <;> simp [h]

theorem pay13_apply (b : Fin 4) (i j f : Fin 16) : k0_pay13 (F := Ideal) L0 L1 (ix4 b i j f) = gate (frame L0 L1 L2) b i j f := by
  pointwise [k0_pay13, k0_pay12, pay9_apply L0 L1 L2, pay10_apply L0 L1 L2]
  rw [if_neg (fun h => h rfl), bit_value, theta_eq]
  unfold gate angle
  by_cases h : ((Real.pi * (1 / 4) : ℝ) : EReal) < Ideal.atan2 (Ideal.sin (Ideal.atan2 (im (frame L0 L1 L2) b i j f) (re (frame L0 L1 L2) b i j f)))
      (Ideal.cos (Ideal.atan2 (im (frame L0 L1 L2) b i j f) (re (frame L0 L1 L2) b i j f)))
  · rw [if_pos h, if_pos (by rw [decide_eq_true h]; rfl)]
  · rw [if_neg h, if_neg (by rw [decide_eq_false h]; decide)]

theorem pay15_apply (c c' : Ideal .f32) (h : c = 0) (h' : c' = 0) (b : Fin 4) (i j f : Fin 16) :
    k0_pay15 (F := Ideal) k0_pay25 c c' (k0_pay13 L0 L1) k0_pay14 (ix4 b i j f) = gate (frame L0 L1 L2) b i j f * off i j := by
  subst h h'
  pointwise [k0_pay15, k0_pay14, pay25_apply, pay13_apply L0 L1 L2]
  have e := clean_tests (gate (frame L0 L1 L2) b i j f)
  simp only [ne_eq, not_true_eq_false, if_false] at e
  rw [e, clean_of_IsR (gate_bit _ _ _ _ _).isR]

/-- The open gates of one time, added to those of the times before. -/
theorem pay16_apply (c c' : Ideal .f32) (h : c = 0) (h' : c' = 0) (acc : FVec Ideal S1x1 .f32) :
    k0_pay16 (F := Ideal) k0_pay25 acc c c' (k0_pay13 L0 L1) k0_pay14 (ix2 0 0) = acc (ix2 0 0) + open_ (frame L0 L1 L2) := by
  pointwise [k0_pay16, pay15_apply L0 L1 L2 c c' h h']
  refine congrArg (acc (ix2 0 0) + ·) ?_
  rw [Idealize.ShloMosaic.Ideal.reduceAdd_total _ (by decide), sum_idx5, Fin.sum_univ_one]
  refine Finset.sum_congr rfl fun b _ => Finset.sum_congr rfl fun i _ => Finset.sum_congr rfl fun j _ => Finset.sum_congr rfl fun f _ => ?_
  pointwise [pay15_apply L0 L1 L2 c c' h h']

variable (x : Messages.Frame) (p : Weights) (s : Nodes)

/-- The first layer, summed over the edges into each node. -/
theorem pay21_apply (v6 v8 v10 v12 v14 : FVec Ideal S1x64 .f32) (v113 v121 v123 : FVec Ideal S4x16x16x16 .f32) (v125 : FVec Ideal S4x16 .f32)
    (v126 v127 v130 : FVec Ideal S64x64 .bf16)
    (h6 : ∀ h, v6 (ix2 0 h) = p.W1 h 0) (h8 : ∀ h, v8 (ix2 0 h) = p.W1 h 1)
    (h10 : ∀ h, v10 (ix2 0 h) = p.W1 h 2) (h12 : ∀ h, v12 (ix2 0 h) = p.W1 h 3) (h14 : ∀ h, v14 (ix2 0 h) = p.b1 h)
    (h113 : ∀ b i j f, v113 (ix4 b i j f) = gate x b i j f * off i j)
    (h121 : ∀ b i j f, v121 (ix4 b i j f) = mag x b i j f) (h123 : ∀ b i j f, v123 (ix4 b i j f) = clean (angle x b i j f))
    (h125 : ∀ b i, v125 (ix2 b i) = x.raw b i)
    (h126 : ∀ (b : Fin 4) (i : Fin 16) (k : Fin 64), v126 (ix2 ⟨b.val * 16 + i.val, by omega⟩ k) = s b i k)
    (h127 : ∀ (k h : Fin 64), v127 (ix2 k h) = p.W1 h ⟨4 + k.val, by omega⟩) (h130 : ∀ (k h : Fin 64), v130 (ix2 k h) = p.W1 h ⟨68 + k.val, by omega⟩)
    (b : Fin 4) (j : Fin 16) (h : Fin 64) (r : Fin 64) (hr : r = ⟨b.val * 16 + j.val, by omega⟩) :
    k0_pay21 (F := Ideal) v6 v8 v10 v12 v14 v113 v121 v123 v125 v126 v127 v130 (ix2 r h) = hidden x p s b j h := by
  subst hr
  pointwise [k0_pay21]
  unfold Messages.hidden act
  simp only [h6, h8, h10, h12, h14, h113, h121, h123, h125, h126, h127, h130]

/-- A sum over the second and the last axis. -/
theorem sum_in_features (v : FVec Ideal S4x16x16x16 .f32) (b : Fin 4) (j : Fin 16) :
    Ideal.reduceAdd reduces_S4x16x16x16_S4x16 v (ix2 b j) = ∑ i, ∑ f, v (ix4 b i j f) := by
  change ∑ k ∈ Finset.univ.filter (fun k => reduces_S4x16x16x16_S4x16.drop k = ix2 b j), v k = _
  have hd : ∀ (a : Fin 4) (i c f : Fin 16), reduces_S4x16x16x16_S4x16.drop (ix4 a i c f) = ix2 b j ↔ a = b ∧ c = j := by
    intro a i c f
    have e : reduces_S4x16x16x16_S4x16.drop (ix4 a i c f) = ix2 a c := by
      funext k
      apply Fin.ext
      match k with
      | ⟨0, _⟩ => exact Shape.Reduces.drop_apply_val_of_eq reduces_S4x16x16x16_S4x16 (ix4 a i c f) (0 : Fin 2) 0
      | ⟨1, _⟩ => exact Shape.Reduces.drop_apply_val_of_eq reduces_S4x16x16x16_S4x16 (ix4 a i c f) (1 : Fin 2) 2
    rw [e]
    exact ix2_inj _ _ _ _
  rw [Finset.sum_filter, sum_idx4]
  simp only [hd]
  rw [Finset.sum_eq_single b (fun a _ ha => by simp [ha]) (by simp)]
  refine Finset.sum_congr rfl fun i _ => ?_
  rw [Finset.sum_eq_single j (fun c _ hc => by simp [hc]) (by simp)]
  simp

/-- The recurrent cell's input from what a node receives. -/
theorem pay22_apply (q : Finite x p s) (v16 : FVec Ideal S1x64 .f32) (v113 : FVec Ideal S4x16x16x16 .f32) (v180 : FVec Ideal S64x64 .f32)
    (v190 : FVec Ideal S64x64 .bf16) (v206 : FVec Ideal S64x192 .bf16) (v209 : FVec Ideal S1x192 .f32)
    (h16 : ∀ h, v16 (ix2 0 h) = p.b2 h) (h113 : ∀ b i j f, v113 (ix4 b i j f) = gate x b i j f * off i j)
    (h180 : ∀ (b : Fin 4) (i : Fin 16) (k : Fin 64), v180 (ix2 ⟨b.val * 16 + i.val, by omega⟩ k) = hidden x p s b i k)
    (h190 : ∀ (k o : Fin 64), v190 (ix2 k o) = p.W2 o k) (h206 : ∀ (k : Fin 64) (o : Fin 192), v206 (ix2 k o) = p.Wih o k)
    (h209 : ∀ o, v209 (ix2 0 o) = p.bih o)
    (b : Fin 4) (j : Fin 16) (o : Fin 192) (r : Fin 64) (hr : r = ⟨b.val * 16 + j.val, by omega⟩) :
    k0_pay22 (F := Ideal) v16 v113 v180 v190 v190 v190 v206 v209 (ix2 r o) = gi x p s b j o := by
  subst hr
  pointwise [k0_pay22]
  simp only [h16, h180, h190, h206, h209, sum_in_features v113, h113, (hidden_isR q _ _ _).sub_self, sub_zero, zero_mul, Finset.sum_const_zero, add_zero]
  rfl

/-- The recurrent cell's input from a node's own state. -/
theorem pay23_apply (v126 : FVec Ideal S64x64 .bf16) (v213 : FVec Ideal S64x192 .bf16) (v216 : FVec Ideal S1x192 .f32)
    (h126 : ∀ (b : Fin 4) (i : Fin 16) (k : Fin 64), v126 (ix2 ⟨b.val * 16 + i.val, by omega⟩ k) = s b i k)
    (h213 : ∀ (k : Fin 64) (o : Fin 192), v213 (ix2 k o) = p.Whh o k) (h216 : ∀ o, v216 (ix2 0 o) = p.bhh o)
    (b : Fin 4) (j : Fin 16) (o : Fin 192) (r : Fin 64) (hr : r = ⟨b.val * 16 + j.val, by omega⟩) :
    k0_pay23 (F := Ideal) v126 v213 v216 (ix2 r o) = gh p s b j o := by
  subst hr
  pointwise [k0_pay23]
  simp only [h126, h213, h216]
  rfl

/-- The states after the step. -/
theorem pay34_apply (acc : FVec Ideal S64x64 .f32) (v212 v219 : FVec Ideal S64x192 .f32) (v220 : FVec Ideal S64x64 .f32)
    (hacc : ∀ (b : Fin 4) (i : Fin 16) (k : Fin 64), acc (ix2 ⟨b.val * 16 + i.val, by omega⟩ k) = s b i k)
    (h212 : ∀ (b : Fin 4) (i : Fin 16) (o : Fin 192), v212 (ix2 ⟨b.val * 16 + i.val, by omega⟩ o) = gi x p s b i o)
    (h219 : ∀ (b : Fin 4) (i : Fin 16) (o : Fin 192), v219 (ix2 ⟨b.val * 16 + i.val, by omega⟩ o) = gh p s b i o)
    (h220 : ∀ (b : Fin 4) (i : Fin 16) (k : Fin 64), v220 (ix2 ⟨b.val * 16 + i.val, by omega⟩ k) = gi x p s b i ⟨k.val, by omega⟩)
    (b : Fin 4) (j : Fin 16) (o : Fin 64) (r : Fin 64) (hr : r = ⟨b.val * 16 + j.val, by omega⟩) :
    k0_pay34 (F := Ideal) acc v212 v219 v220 (ix2 r o) = next x p s b j o := by
  subst hr
  pointwise [k0_pay34]
  simp only [hacc, h212, h219, h220]
  rfl

/-- The class scores. -/
theorem pay35_apply (Wc : Fin 4 → Fin 64 → EReal) (bc : Fin 4 → EReal) (v20 : FVec Ideal S64x64 .f32) (v26 : FVec Ideal S64x4 .bf16) (v29 : FVec Ideal S1x4 .f32)
    (h20 : ∀ (b : Fin 4) (i : Fin 16) (k : Fin 64), v20 (ix2 ⟨b.val * 16 + i.val, by omega⟩ k) = s b i k)
    (h26 : ∀ k c, v26 (ix2 k c) = Wc c k) (h29 : ∀ c, v29 (ix2 0 c) = bc c) (b c : Fin 4) :
    k0_pay35 (F := Ideal) v20 v26 v29 (ix2 b c) = scores Wc bc s b c := by
  pointwise [k0_pay35]
  simp only [h20, h26, h29]
  rfl

end Cert.KernelIdeal.Trip

end
-- ==== Proof.KTrip.lean ====
module

public import proofs.«01_k».proof.Proof.Gen.KernelIdeal.Frame
public import proofs.«01_k».proof.Proof.KPay

@[expose] public section

set_option maxRecDepth 16384

noncomputable section

namespace Cert.KernelIdeal.Trip

open Idealize.ShloMosaic Idealize.ShloMosaic.TcCoe Cert.KernelIdeal Cert.KernelIdeal.Gen

variable {F : FTy → Type} [FloatOps F] [Named F]

/-- The blocks that the body reads, in the order of its arguments. -/
structure Blocks (F : FTy → Type) where
  x0 : Vec F S16x4x16x16 .f32
  x1 : Vec F S16x4x16x16 .f32
  x2 : Vec F S16x4x16 .f32
  x3 : Vec F S1x64 .f32
  x4 : Vec F S1x64 .f32
  x5 : Vec F S1x64 .f32
  x6 : Vec F S1x64 .f32
  x7 : Vec F S64x64 .bf16
  x8 : Vec F S64x64 .bf16
  x9 : Vec F S1x64 .f32
  x10 : Vec F S64x64 .bf16
  x11 : Vec F S1x64 .f32
  x12 : Vec F S64x192 .bf16
  x13 : Vec F S64x192 .bf16
  x14 : Vec F S1x192 .f32
  x15 : Vec F S1x192 .f32
  x16 : Vec F S64x4 .bf16
  x17 : Vec F S1x4 .f32

/-- The two arrays' and the samples' slice at trip `k`. -/
def at4 (x : Vec F S16x4x16x16 .f32) (k : Fin k0_t1_loop.trips) : Vec F S1x4x16x16 .f32 :=
  View.ld x (Rect.unit (k0_off1 k) S1x4x16x16.size (k0_off1_inb k))
def at3 (x : Vec F S16x4x16 .f32) (k : Fin k0_t1_loop.trips) : Vec F S1x4x16 .f32 :=
  View.ld x (Rect.unit (k0_off2 k) S1x4x16.size (k0_off2_inb k))

/-- The gate of a trip, with the diagonal off. -/
def gates (X : Blocks F) (k : Fin k0_t1_loop.trips) : FVec F S4x16x16x16 .f32 :=
  k0_pay15 k0_pay25 (Scalar.ofBits .f32 0x00000000#32) (Scalar.ofBits .f32 0x00000000#32) (k0_pay13 (at4 X.x0 k) (at4 X.x1 k)) k0_pay14

/-- The first layer of a trip, summed into each node. -/
def sums (X : Blocks F) (k : Fin k0_t1_loop.trips) (acc : FVec F S64x64 .f32) : FVec F S64x64 .f32 :=
  k0_pay21 (k0_pay26 X.x3) (k0_pay27 X.x4) (k0_pay28 X.x5) (k0_pay29 X.x6) (k0_pay30 X.x9) (gates X k)
    (k0_pay17 (k0_pay11 (at4 X.x0 k) (at4 X.x1 k))) (k0_pay18 (k0_pay12 (at4 X.x0 k) (at4 X.x1 k)))
    (k0_pay19 (k0_pay4 (at3 X.x2 k))) (k0_pay20 acc) X.x7 X.x8

/-- What one trip yields. -/
def trip (X : Blocks F) (k : Fin k0_t1_loop.trips) (acc : FVec F S64x64 .f32 × FVec F S1x1 .f32) : FVec F S64x64 .f32 × FVec F S1x1 .f32 :=
  (k0_pay34 acc.1 (k0_pay22 (k0_pay31 X.x11) (gates X k) (sums X k acc.1) X.x10 X.x10 X.x10 X.x12 X.x14) (k0_pay23 (k0_pay20 acc.1) X.x13 X.x15)
      (k0_pay24 (k0_pay31 X.x11) (gates X k) (sums X k acc.1) X.x10 X.x10 X.x10 X.x12 X.x14),
    k0_pay16 k0_pay25 acc.2 (Scalar.ofBits .f32 0x00000000#32) (Scalar.ofBits .f32 0x00000000#32) (k0_pay13 (at4 X.x0 k) (at4 X.x1 k)) k0_pay14)

theorem zero2 : (![0, 0] : Fin 2 → Nat) = fun _ => 0 := by funext i; fin_cases i <;> rfl

variable (c : Dev nD)
  (arg0 : Memref sig .tc .vmem S16x4x16x16 .f32) (harg0 : arg0.IsWhole)
  (arg1 : Memref sig .tc .vmem S16x4x16x16 .f32) (harg1 : arg1.IsWhole)
  (arg2 : Memref sig .tc .vmem S16x4x16 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S64x64 .bf16) (harg7 : arg7.IsWhole)
  (arg8 : Memref sig .tc .vmem S64x64 .bf16) (harg8 : arg8.IsWhole)
  (arg9 : Memref sig .tc .vmem S1x64 .f32) (harg9 : arg9.IsWhole)
  (arg10 : Memref sig .tc .vmem S64x64 .bf16) (harg10 : arg10.IsWhole)
  (arg11 : Memref sig .tc .vmem S1x64 .f32) (harg11 : arg11.IsWhole)
  (arg12 : Memref sig .tc .vmem S64x192 .bf16) (harg12 : arg12.IsWhole)
  (arg13 : Memref sig .tc .vmem S64x192 .bf16) (harg13 : arg13.IsWhole)
  (arg14 : Memref sig .tc .vmem S1x192 .f32) (harg14 : arg14.IsWhole)
  (arg15 : Memref sig .tc .vmem S1x192 .f32) (harg15 : arg15.IsWhole)
  (arg16 : Memref sig .tc .vmem S64x4 .bf16) (harg16 : arg16.IsWhole)
  (arg17 : Memref sig .tc .vmem S1x4 .f32) (harg17 : arg17.IsWhole)
  (arg18 : Memref sig .tc .vmem S4x4 .f32) (harg18 : arg18.IsWhole)
  (arg19 : Memref sig .tc .vmem S1x1 .f32) (harg19 : arg19.IsWhole)

/-- The generated trip is the trip above. -/
theorem trip_eq (X : Blocks F) (k : Fin k0_t1_loop.trips) (acc : FVec F S64x64 .f32 × FVec F S1x1 .f32) :
    tripR_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      X.x3 X.x4 X.x5 X.x6 X.x9 X.x11 (harg0.unread X.x0) (harg1.unread X.x1) (harg2.unread X.x2) (harg7.unread X.x7) (harg8.unread X.x8) (harg10.unread X.x10) (harg12.unread X.x12) (harg13.unread X.x13) (harg14.unread X.x14) (harg15.unread X.x15) k acc = trip X k acc := by
  unfold tripR_k0_t1 trip_k0_t1
  dsimp only
  sl_unfold_words
  simp only [View.readAt_eq_ld, harg0.read_unread, harg1.read_unread, harg2.read_unread, harg7.read_unread, harg8.read_unread, harg10.read_unread, harg12.read_unread, harg13.read_unread, harg14.read_unread, harg15.read_unread, View.ld_unit_zero (S := S64x64) zero2,
    View.ld_unit_zero (S := S64x192) zero2, View.ld_unit_zero (S := S1x192) zero2]
  rfl

/-- What the loop carries after `n` trips. -/
def carried (X : Blocks F) : ℕ → FVec F S64x64 .f32 × FVec F S1x1 .f32
  | 0 => (k0_pay32, k0_pay33)
  | n + 1 => if h : n < k0_t1_loop.trips then trip X ⟨n, h⟩ (carried X n) else carried X n

theorem carried_succ (X : Blocks F) (k : Fin k0_t1_loop.trips) : carried X (k.val + 1) = trip X k (carried X k.val) :=
  dif_pos k.isLt

theorem loop_eq (X : Blocks F) (n : ℕ) (hn : n ≤ k0_t1_loop.trips) :
    st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      X.x3 X.x4 X.x5 X.x6 X.x9 X.x11 (harg0.unread X.x0) (harg1.unread X.x1) (harg2.unread X.x2) (harg7.unread X.x7) (harg8.unread X.x8) (harg10.unread X.x10) (harg12.unread X.x12) (harg13.unread X.x13) (harg14.unread X.x14) (harg15.unread X.x15) (k0_pay32, k0_pay33) n = carried X n := by
  induction n with
  | zero => rfl
  | succ n ih =>
    refine (st_k0_t1_succ Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      X.x3 X.x4 X.x5 X.x6 X.x9 X.x11 (harg0.unread X.x0) (harg1.unread X.x1) (harg2.unread X.x2) (harg7.unread X.x7) (harg8.unread X.x8) (harg10.unread X.x10) (harg12.unread X.x12) (harg13.unread X.x13) (harg14.unread X.x14) (harg15.unread X.x15) (k0_pay32, k0_pay33) ⟨n, hn⟩).trans ?_
    exact (congrArg _ (ih (Nat.le_of_succ_le hn))).trans ((trip_eq c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X ⟨n, hn⟩ (carried X n)).trans (carried_succ X ⟨n, hn⟩).symm)

/-- The class scores that the body leaves. -/
theorem out18_eq (X : Blocks F) :
    out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X.x0 X.x1 X.x2 X.x3 X.x4 X.x5 X.x6 X.x7 X.x8 X.x9 X.x10 X.x11 X.x12 X.x13 X.x14 X.x15 X.x16 X.x17 = k0_pay35 (carried X k0_t1_loop.trips).1 X.x16 X.x17 := by
  unfold out0_A_18
  rw [View.read_writes_eq_canon _ _ _ (cover0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X.x0 X.x1 X.x2 X.x3 X.x4 X.x5 X.x6 X.x7 X.x8 X.x9 X.x10 X.x11 X.x12 X.x13 X.x14 X.x15 X.x16 X.x17)]
  unfold kernelRun0_A
  dsimp only
  sl_unfold_words
  rw [View.canon_unit_zero zero2]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S64x4) zero2,
    View.ld_unit_zero (S := S1x4) zero2, View.ld_unit_zero (S := S1x64) zero2]
  rw [← loop_eq c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X _ le_rfl]

/-- The share of open gates that the body leaves. -/
theorem out19_eq (X : Blocks F) :
    out0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X.x0 X.x1 X.x2 X.x3 X.x4 X.x5 X.x6 X.x7 X.x8 X.x9 X.x10 X.x11 X.x12 X.x13 X.x14 X.x15 X.x16 X.x17 = k0_pay1 (carried X k0_t1_loop.trips).2 := by
  unfold out0_A_19
  rw [View.read_writes_eq_canon _ _ _ (cover0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X.x0 X.x1 X.x2 X.x3 X.x4 X.x5 X.x6 X.x7 X.x8 X.x9 X.x10 X.x11 X.x12 X.x13 X.x14 X.x15 X.x16 X.x17)]
  unfold kernelRun0_A
  dsimp only
  sl_unfold_words
  rw [View.canon_unit_zero zero2]
  simp only [View.readAt_eq_ld, harg0.read_unread, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S64x4) zero2,
    View.ld_unit_zero (S := S1x4) zero2, View.ld_unit_zero (S := S1x64) zero2]
  rw [← loop_eq c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X _ le_rfl]

end Cert.KernelIdeal.Trip

end
-- ==== Proof.KArr.lean ====
module

public import proofs.«01_k».proof.Proof.KTrip

@[expose] public section

set_option maxRecDepth 16384

noncomputable section

namespace Cert.KernelIdeal.Trip

open Idealize.ShloMosaic Idealize.ShloMosaic.TcCoe Idealize.SL.Sem Cert.KernelIdeal Cert.KernelIdeal.Gen

variable {F : FTy → Type} [FloatOps F] [Named F]

/-! The layouts in which the host hands the arguments to the kernel. -/

def samples4 (w : Vec F S4x16x128x16 .f32) : Vec F S16x4x16x16 .f32 :=
  transpose S16x4x16x16 [2, 0, 1, 3] (Host.slice S4x16x16x16 ![0, 0, 0, 0] ![1, 1, 8, 1] w slicesBy_S4x16x128x16_S4x16x16x16_0s1_0s1_0s8_0s1) transposes_S4x16x16x16_S16x4x16x16_2_0_1_3

def samples3 (w : Vec F S4x16x128 .f32) : Vec F S16x4x16 .f32 :=
  transpose S16x4x16 [2, 0, 1] (Host.slice S4x16x16 ![0, 0, 0] ![1, 1, 8] w slicesBy_S4x16x128_S4x16x16_0s1_0s1_0s8) transposes_S4x16x16_S16x4x16_2_0_1

def column0 (w : Vec F S64x132 .f32) : Vec F S1x64 .f32 :=
  shapeCast S1x64 (shapeCast S64 (extractStridedSlice S64x1 ![0, 0] (extf .f32 (truncf .bf16 w bitsLt_bf16_f32) bitsLt_bf16_f32) slices_S64x132_S64x1_0_0) shapeCasts_S64x1_S64) shapeCasts_S64_S1x64

def column1 (w : Vec F S64x132 .f32) : Vec F S1x64 .f32 :=
  shapeCast S1x64 (shapeCast S64 (extractStridedSlice S64x1 ![0, 1] (extf .f32 (truncf .bf16 w bitsLt_bf16_f32) bitsLt_bf16_f32) slices_S64x132_S64x1_0_1) shapeCasts_S64x1_S64) shapeCasts_S64_S1x64

def column2 (w : Vec F S64x132 .f32) : Vec F S1x64 .f32 :=
  shapeCast S1x64 (shapeCast S64 (extractStridedSlice S64x1 ![0, 2] (extf .f32 (truncf .bf16 w bitsLt_bf16_f32) bitsLt_bf16_f32) slices_S64x132_S64x1_0_2) shapeCasts_S64x1_S64) shapeCasts_S64_S1x64

def column3 (w : Vec F S64x132 .f32) : Vec F S1x64 .f32 :=
  shapeCast S1x64 (shapeCast S64 (extractStridedSlice S64x1 ![0, 3] (extf .f32 (truncf .bf16 w bitsLt_bf16_f32) bitsLt_bf16_f32) slices_S64x132_S64x1_0_3) shapeCasts_S64x1_S64) shapeCasts_S64_S1x64

def columns4 (w : Vec F S64x132 .f32) : Vec F S64x64 .bf16 :=
  truncf .bf16 (transpose S64x64 [1, 0] (extractStridedSlice S64x64 ![0, 4] w slices_S64x132_S64x64_0_4) transposes_S64x64_S64x64_1_0) bitsLt_bf16_f32

def columns68 (w : Vec F S64x132 .f32) : Vec F S64x64 .bf16 :=
  truncf .bf16 (transpose S64x64 [1, 0] (extractStridedSlice S64x64 ![0, 68] w slices_S64x132_S64x64_0_68) transposes_S64x64_S64x64_1_0) bitsLt_bf16_f32

def row64 (w : Vec F S64 .f32) : Vec F S1x64 .f32 :=
  shapeCast S1x64 w shapeCasts_S64_S1x64

def row192 (w : Vec F S192 .f32) : Vec F S1x192 .f32 :=
  shapeCast S1x192 w shapeCasts_S192_S1x192

def row4 (w : Vec F S4 .f32) : Vec F S1x4 .f32 :=
  shapeCast S1x4 w shapeCasts_S4_S1x4

def turned64 (w : Vec F S64x64 .f32) : Vec F S64x64 .bf16 :=
  truncf .bf16 (transpose S64x64 [1, 0] w transposes_S64x64_S64x64_1_0) bitsLt_bf16_f32

def turned192 (w : Vec F S192x64 .f32) : Vec F S64x192 .bf16 :=
  truncf .bf16 (transpose S64x192 [1, 0] w transposes_S192x64_S64x192_1_0) bitsLt_bf16_f32

def turned4 (w : Vec F S4x64 .f32) : Vec F S64x4 .bf16 :=
  truncf .bf16 (transpose S64x4 [1, 0] w transposes_S4x64_S64x4_1_0) bitsLt_bf16_f32

variable (m : (ℓ : Loc nD τ sig) → Buf (Elt F) ℓ) (ρ : Dev nD → PrngReg) (c : Dev nD)

/-- The blocks as the launch finds them. -/
def blocks : Blocks F where
  x0 := samples4 (m ((c : Thread nD τ).loc main_arg1))
  x1 := samples4 (m ((c : Thread nD τ).loc main_arg2))
  x2 := samples3 (m ((c : Thread nD τ).loc main_arg0))
  x3 := column0 (m ((c : Thread nD τ).loc main_arg3))
  x4 := column1 (m ((c : Thread nD τ).loc main_arg3))
  x5 := column2 (m ((c : Thread nD τ).loc main_arg3))
  x6 := column3 (m ((c : Thread nD τ).loc main_arg3))
  x7 := columns4 (m ((c : Thread nD τ).loc main_arg3))
  x8 := columns68 (m ((c : Thread nD τ).loc main_arg3))
  x9 := row64 (m ((c : Thread nD τ).loc main_arg4))
  x10 := turned64 (m ((c : Thread nD τ).loc main_arg5))
  x11 := row64 (m ((c : Thread nD τ).loc main_arg6))
  x12 := turned192 (m ((c : Thread nD τ).loc main_arg7))
  x13 := turned192 (m ((c : Thread nD τ).loc main_arg8))
  x14 := row192 (m ((c : Thread nD τ).loc main_arg9))
  x15 := row192 (m ((c : Thread nD τ).loc main_arg10))
  x16 := turned4 (m ((c : Thread nD τ).loc main_arg11))
  x17 := row4 (m ((c : Thread nD τ).loc main_arg12))

theorem block_0 : (iblk m c 0 t0_0 : _) = (blocks m c).x0 := by
  have hz : (fun a => win0_0.index t0_0 a * main_v1.ty.shape.size a) = fun _ => 0 := funext fun a => by fin_cases a <;> decide
  refine (Memref.read_access_unit_zero (Elt F) main_v1 hz (fun a => by rw [congrFun hz a]; simp) (V m c main_v1)).trans ?_
  unfold V V0
  after_results
  rfl

theorem block_1 : (iblk m c 1 t0_0 : _) = (blocks m c).x1 := by
  have hz : (fun a => win0_1.index t0_0 a * main_v3.ty.shape.size a) = fun _ => 0 := funext fun a => by fin_cases a <;> decide
  refine (Memref.read_access_unit_zero (Elt F) main_v3 hz (fun a => by rw [congrFun hz a]; simp) (V m c main_v3)).trans ?_
  unfold V V0
  after_results
  rfl

theorem block_2 : (iblk m c 2 t0_0 : _) = (blocks m c).x2 := by
  have hz : (fun a => win0_2.index t0_0 a * main_v5.ty.shape.size a) = fun _ => 0 := funext fun a => by fin_cases a <;> decide
  refine (Memref.read_access_unit_zero (Elt F) main_v5 hz (fun a => by rw [congrFun hz a]; simp) (V m c main_v5)).trans ?_
  unfold V V0
  after_results
  rfl

theorem block_3 : (iblk m c 3 t0_0 : _) = (blocks m c).x3 := by
  have hz : (fun a => win0_3.index t0_0 a * main_v10.ty.shape.size a) = fun _ => 0 := funext fun a => by fin_cases a <;> decide
  refine (Memref.read_access_unit_zero (Elt F) main_v10 hz (fun a => by rw [congrFun hz a]; simp) (V m c main_v10)).trans ?_
  unfold V V0
  after_results
  rfl

theorem block_4 : (iblk m c 4 t0_0 : _) = (blocks m c).x4 := by
  have hz : (fun a => win0_4.index t0_0 a * main_v13.ty.shape.size a) = fun _ => 0 := funext fun a => by fin_cases a <;> decide
  refine (Memref.read_access_unit_zero (Elt F) main_v13 hz (fun a => by rw [congrFun hz a]; simp) (V m c main_v13)).trans ?_
  unfold V V0
  after_results
  rfl

theorem block_5 : (iblk m c 5 t0_0 : _) = (blocks m c).x5 := by
  have hz : (fun a => win0_5.index t0_0 a * main_v16.ty.shape.size a) = fun _ => 0 := funext fun a => by fin_cases a <;> decide
  refine (Memref.read_access_unit_zero (Elt F) main_v16 hz (fun a => by rw [congrFun hz a]; simp) (V m c main_v16)).trans ?_
  unfold V V0
  after_results
  rfl

theorem block_6 : (iblk m c 6 t0_0 : _) = (blocks m c).x6 := by
  have hz : (fun a => win0_6.index t0_0 a * main_v19.ty.shape.size a) = fun _ => 0 := funext fun a => by fin_cases a <;> decide
  refine (Memref.read_access_unit_zero (Elt F) main_v19 hz (fun a => by rw [congrFun hz a]; simp) (V m c main_v19)).trans ?_
  unfold V V0
  after_results
  rfl

theorem block_7 : (iblk m c 7 t0_0 : _) = (blocks m c).x7 := by
  have hz : (fun a => win0_7.index t0_0 a * main_v22.ty.shape.size a) = fun _ => 0 := funext fun a => by fin_cases a <;> decide
  refine (Memref.read_access_unit_zero (Elt F) main_v22 hz (fun a => by rw [congrFun hz a]; simp) (V m c main_v22)).trans ?_
  unfold V V0
  after_results
  rfl

theorem block_8 : (iblk m c 8 t0_0 : _) = (blocks m c).x8 := by
  have hz : (fun a => win0_8.index t0_0 a * main_v25.ty.shape.size a) = fun _ => 0 := funext fun a => by fin_cases a <;> decide
  refine (Memref.read_access_unit_zero (Elt F) main_v25 hz (fun a => by rw [congrFun hz a]; simp) (V m c main_v25)).trans ?_
  unfold V V0
  after_results
  rfl

theorem block_9 : (iblk m c 9 t0_0 : _) = (blocks m c).x9 := by
  have hz : (fun a => win0_9.index t0_0 a * main_v26.ty.shape.size a) = fun _ => 0 := funext fun a => by fin_cases a <;> decide
  refine (Memref.read_access_unit_zero (Elt F) main_v26 hz (fun a => by rw [congrFun hz a]; simp) (V m c main_v26)).trans ?_
  unfold V V0
  after_results
  rfl

theorem block_10 : (iblk m c 10 t0_0 : _) = (blocks m c).x10 := by
  have hz : (fun a => win0_10.index t0_0 a * main_v28.ty.shape.size a) = fun _ => 0 := funext fun a => by fin_cases a <;> decide
  refine (Memref.read_access_unit_zero (Elt F) main_v28 hz (fun a => by rw [congrFun hz a]; simp) (V m c main_v28)).trans ?_
  unfold V V0
  after_results
  rfl

theorem block_11 : (iblk m c 11 t0_0 : _) = (blocks m c).x11 := by
  have hz : (fun a => win0_11.index t0_0 a * main_v29.ty.shape.size a) = fun _ => 0 := funext fun a => by fin_cases a <;> decide
  refine (Memref.read_access_unit_zero (Elt F) main_v29 hz (fun a => by rw [congrFun hz a]; simp) (V m c main_v29)).trans ?_
  unfold V V0
  after_results
  rfl

theorem block_12 : (iblk m c 12 t0_0 : _) = (blocks m c).x12 := by
  have hz : (fun a => win0_12.index t0_0 a * main_v31.ty.shape.size a) = fun _ => 0 := funext fun a => by fin_cases a <;> decide
  refine (Memref.read_access_unit_zero (Elt F) main_v31 hz (fun a => by rw [congrFun hz a]; simp) (V m c main_v31)).trans ?_
  unfold V V0
  after_results
  rfl

theorem block_13 : (iblk m c 13 t0_0 : _) = (blocks m c).x13 := by
  have hz : (fun a => win0_13.index t0_0 a * main_v33.ty.shape.size a) = fun _ => 0 := funext fun a => by fin_cases a <;> decide
  refine (Memref.read_access_unit_zero (Elt F) main_v33 hz (fun a => by rw [congrFun hz a]; simp) (V m c main_v33)).trans ?_
  unfold V V0
  after_results
  rfl

theorem block_14 : (iblk m c 14 t0_0 : _) = (blocks m c).x14 := by
  have hz : (fun a => win0_14.index t0_0 a * main_v34.ty.shape.size a) = fun _ => 0 := funext fun a => by fin_cases a <;> decide
  refine (Memref.read_access_unit_zero (Elt F) main_v34 hz (fun a => by rw [congrFun hz a]; simp) (V m c main_v34)).trans ?_
  unfold V V0
  after_results
  rfl

theorem block_15 : (iblk m c 15 t0_0 : _) = (blocks m c).x15 := by
  have hz : (fun a => win0_15.index t0_0 a * main_v35.ty.shape.size a) = fun _ => 0 := funext fun a => by fin_cases a <;> decide
  refine (Memref.read_access_unit_zero (Elt F) main_v35 hz (fun a => by rw [congrFun hz a]; simp) (V m c main_v35)).trans ?_
  unfold V V0
  after_results
  rfl

theorem block_16 : (iblk m c 16 t0_0 : _) = (blocks m c).x16 := by
  have hz : (fun a => win0_16.index t0_0 a * main_v37.ty.shape.size a) = fun _ => 0 := funext fun a => by fin_cases a <;> decide
  refine (Memref.read_access_unit_zero (Elt F) main_v37 hz (fun a => by rw [congrFun hz a]; simp) (V m c main_v37)).trans ?_
  unfold V V0
  after_results
  rfl

theorem block_17 : (iblk m c 17 t0_0 : _) = (blocks m c).x17 := by
  have hz : (fun a => win0_17.index t0_0 a * main_v38.ty.shape.size a) = fun _ => 0 := funext fun a => by fin_cases a <;> decide
  refine (Memref.read_access_unit_zero (Elt F) main_v38 hz (fun a => by rw [congrFun hz a]; simp) (V m c main_v38)).trans ?_
  unfold V V0
  after_results
  rfl

/-- What the launch leaves in the two results. -/
def scoresOut : Vec F S4x4 .f32 := k0_pay35 (carried (blocks m c) k0_t1_loop.trips).1 (blocks m c).x16 (blocks m c).x17
def shareOut : Vec F S1x1 .f32 := k0_pay1 (carried (blocks m c) k0_t1_loop.trips).2

theorem outs_18 : (outsAt0 m c t0_0).1 = scoresOut m c := by
  unfold outsAt0
  dsimp only
  rw [block_0 m c, block_1 m c, block_2 m c, block_3 m c, block_4 m c, block_5 m c, block_6 m c, block_7 m c, block_8 m c, block_9 m c, block_10 m c, block_11 m c, block_12 m c, block_13 m c, block_14 m c, block_15 m c, block_16 m c, block_17 m c]
  exact out18_eq c _ _ _ _ _ _ _ _ _ _ _ _ _ _ _ _ _ _ _ _ _ _ _ _ _ _ _ _ _ _ _ _ _ _ _ _ _ _ _ _ (blocks m c)

theorem outs_19 : (outsAt0 m c t0_0).2 = shareOut m c := by
  unfold outsAt0
  dsimp only
  rw [block_0 m c, block_1 m c, block_2 m c, block_3 m c, block_4 m c, block_5 m c, block_6 m c, block_7 m c, block_8 m c, block_9 m c, block_10 m c, block_11 m c, block_12 m c, block_13 m c, block_14 m c, block_15 m c, block_16 m c, block_17 m c]
  exact out19_eq c _ _ _ _ _ _ _ _ _ _ _ _ _ _ _ _ _ _ _ _ _ _ _ _ _ _ _ _ _ _ _ _ _ _ _ _ _ _ _ _ (blocks m c)

theorem flushed_18 (t : Fin cfg0.N) (_ : (cfg0.win 18).flush t = true) :
    (dats m 0 c).flushed 18 t = ((cfg0.win 18).blk t).view.read (Elt F) (scoresOut m c : Buf (Elt F) ((c : Thread nD τ).loc main_v39_0)) := by
  obtain rfl := fin_N0 t
  show (cfg0.win 18).cut (grid0.coords t0_0) ((dats m 0 c).after 18 t0_0) = _
  rw [after0_18, outs_18]
  have hz : (fun a => win0_18.index t0_0 a * main_v39_0.ty.shape.size a) = fun _ => 0 := funext fun a => by fin_cases a <;> decide
  exact (Memref.read_access_unit_zero (Elt F) main_v39_0 hz (fun a => by rw [congrFun hz a]; simp) (scoresOut m c)).symm

theorem flushed_19 (t : Fin cfg0.N) (_ : (cfg0.win 19).flush t = true) :
    (dats m 0 c).flushed 19 t = ((cfg0.win 19).blk t).view.read (Elt F) (shareOut m c : Buf (Elt F) ((c : Thread nD τ).loc main_v39_1)) := by
  obtain rfl := fin_N0 t
  show (cfg0.win 19).cut (grid0.coords t0_0) ((dats m 0 c).after 19 t0_0) = _
  rw [after0_19, outs_19]
  have hz : (fun a => win0_19.index t0_0 a * main_v39_1.ty.shape.size a) = fun _ => 0 := funext fun a => by fin_cases a <;> decide
  exact (Memref.read_access_unit_zero (Elt F) main_v39_1 hz (fun a => by rw [congrFun hz a]; simp) (shareOut m c)).symm

theorem final_18 : (dats m 0 c).arrAt 18 cfg0.N = scoresOut m c :=
  (dats m 0 c).arrAt_eq_of_cover 18 (scoresOut m c) (flushed_18 m c) fun i =>
    ⟨t0_0, flush0_18 t0_0, by
      show i ∈ ((View.whole main_v39_0).slice (win0_18.rect t0_0)).set
      rw [View.set_slice_whole, Rect.mem_set_unit]
      intro a
      have h0 : (i 0 : Nat) < 4 := (i 0).isLt
      have h1 : (i 1 : Nat) < 4 := (i 1).isLt
      match a with
      | ⟨0, _⟩ => show win0_18.index t0_0 0 * win0_18.size 0 ≤ (i 0 : Nat) ∧ (i 0 : Nat) < win0_18.index t0_0 0 * win0_18.size 0 + win0_18.xsize (grid0.coords t0_0) 0
                  rw [show win0_18.index t0_0 0 * win0_18.size 0 = 0 from by decide +kernel, show win0_18.xsize (grid0.coords t0_0) 0 = 4 from by decide +kernel]; omega
      | ⟨1, _⟩ => show win0_18.index t0_0 1 * win0_18.size 1 ≤ (i 1 : Nat) ∧ (i 1 : Nat) < win0_18.index t0_0 1 * win0_18.size 1 + win0_18.xsize (grid0.coords t0_0) 1
                  rw [show win0_18.index t0_0 1 * win0_18.size 1 = 0 from by decide +kernel, show win0_18.xsize (grid0.coords t0_0) 1 = 4 from by decide +kernel]; omega⟩

theorem final_19 : (dats m 0 c).arrAt 19 cfg0.N = shareOut m c :=
  (dats m 0 c).arrAt_eq_of_cover 19 (shareOut m c) (flushed_19 m c) fun i =>
    ⟨t0_0, flush0_19 t0_0, by
      show i ∈ ((View.whole main_v39_1).slice (win0_19.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_19.index t0_0 0 * win0_19.size 0 ≤ (i 0 : Nat) ∧ (i 0 : Nat) < win0_19.index t0_0 0 * win0_19.size 0 + win0_19.xsize (grid0.coords t0_0) 0
                  rw [show win0_19.index t0_0 0 * win0_19.size 0 = 0 from by decide +kernel, show win0_19.xsize (grid0.coords t0_0) 0 = 1 from by decide +kernel]; omega
      | ⟨1, _⟩ => show win0_19.index t0_0 1 * win0_19.size 1 ≤ (i 1 : Nat) ∧ (i 1 : Nat) < win0_19.index t0_0 1 * win0_19.size 1 + win0_19.xsize (grid0.coords t0_0) 1
                  rw [show win0_19.index t0_0 1 * win0_19.size 1 = 0 from by decide +kernel, show win0_19.xsize (grid0.coords t0_0) 1 = 1 from by decide +kernel]; omega⟩

theorem tail_v40 : Pipeline.afterTail₀ cfgs (dats m) 0 (V0 m) [hostOps1] c main_v40 = shapeCast S_ (shareOut m c) shapeCasts_S1x1_S_ := by
  unfold Pipeline.afterTail₀
  after_results
  exact congrArg (shapeCast S_ · shapeCasts_S1x1_S_)
    ((Pipeline.withArrays_arr spec0 (by decide) c (V0 m c) (fun w => (dats m 0 c).arrAt w cfg0.N) 19).trans (final_19 m c))

/-- The run leaves the scores and the share in the two results, and the arguments as they were. -/
theorem run : θ_run defs (onTc (τ := τ) (main (F := F))) ⟨m, fun _ => 0, ρ⟩ fun r => ∀ c : Dev nD,
      (r.2.mem ((c : Thread nD τ).loc main_v39_0) = scoresOut m c
        ∧ r.2.mem ((c : Thread nD τ).loc main_v40) = shapeCast S_ (shareOut m c) shapeCasts_S1x1_S_)
      ∧ (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12)) :=
  (θ_run defs _ _).mono (fun _ h c => ⟨⟨((h.1 c).1 18).trans (final_18 m c),
      ((h.1 c).2 main_v40 (by decide)).trans (tail_v40 m c)⟩, h.2 c⟩)
    (θ_run_and (run_main m ρ) (unchanged m ρ))

end Cert.KernelIdeal.Trip

end
-- ==== Proof.KLoop.lean ====
module

public import proofs.«01_k».proof.Proof.KTrip

@[expose] public section

set_option maxRecDepth 16384

noncomputable section

namespace Cert.KernelIdeal.Trip

open Idealize.ShloMosaic Idealize.ShloMosaic.TcCoe Cert.KernelIdeal Cert.KernelIdeal.Gen Cert.Messages

/-- The blocks hold the samples of each time and the weights, laid out as the body reads them. -/
structure Holds (X : Blocks Ideal) (x : ℕ → Messages.Frame) (p : Weights) (Wc : Fin 4 → Fin 64 → EReal) (bc : Fin 4 → EReal) : Prop where
  times : ∀ k : Fin k0_t1_loop.trips, frame (at4 X.x0 k) (at4 X.x1 k) (at3 X.x2 k) = x k.val
  x3 : ∀ h, X.x3 (ix2 0 h) = p.W1 h 0
  x4 : ∀ h, X.x4 (ix2 0 h) = p.W1 h 1
  x5 : ∀ h, X.x5 (ix2 0 h) = p.W1 h 2
  x6 : ∀ h, X.x6 (ix2 0 h) = p.W1 h 3
  x7 : ∀ k h : Fin 64, X.x7 (ix2 k h) = p.W1 h ⟨4 + k.val, by omega⟩
  x8 : ∀ k h : Fin 64, X.x8 (ix2 k h) = p.W1 h ⟨68 + k.val, by omega⟩
  x9 : ∀ h, X.x9 (ix2 0 h) = p.b1 h
  x10 : ∀ k o : Fin 64, X.x10 (ix2 k o) = p.W2 o k
  x11 : ∀ h, X.x11 (ix2 0 h) = p.b2 h
  x12 : ∀ (k : Fin 64) (o : Fin 192), X.x12 (ix2 k o) = p.Wih o k
  x13 : ∀ (k : Fin 64) (o : Fin 192), X.x13 (ix2 k o) = p.Whh o k
  x14 : ∀ o, X.x14 (ix2 0 o) = p.bih o
  x15 : ∀ o, X.x15 (ix2 0 o) = p.bhh o
  x16 : ∀ k c, X.x16 (ix2 k c) = Wc c k
  x17 : ∀ c, X.x17 (ix2 0 c) = bc c

variable {X : Blocks Ideal} {x : ℕ → Messages.Frame} {p : Weights} {Wc : Fin 4 → Fin 64 → EReal} {bc : Fin 4 → EReal}

theorem cast64 (v : Vec Ideal S1x64 .f32) (h : Fin 64) : shapeCast S1x64 v shapeCasts_S1x64_S1x64 (ix2 0 h) = v (ix2 0 h) := by
  rw [shapeCast_self]

theorem zero_f32 : (Scalar.ofBits .f32 0x00000000#32 : Ideal .f32) = 0 := Ideal.ofBits_zero_f32

/-- One trip takes the states after `n` steps to those after `n + 1`. -/
theorem trip_state (q : Holds X x p Wc bc) (k : Fin k0_t1_loop.trips) (s : Nodes) (acc : FVec Ideal S64x64 .f32 × FVec Ideal S1x1 .f32)
    (hs : Finite (x k.val) p s)
    (hacc : ∀ (b : Fin 4) (i : Fin 16) (o : Fin 64), acc.1 (ix2 ⟨b.val * 16 + i.val, by omega⟩ o) = s b i o)
    (b : Fin 4) (i : Fin 16) (o : Fin 64) :
    (trip X k acc).1 (ix2 ⟨b.val * 16 + i.val, by omega⟩ o) = next (x k.val) p s b i o := by
  have hg : ∀ b i j f, gates X k (ix4 b i j f) = gate (x k.val) b i j f * off i j := fun b i j f => by
    rw [← q.times k]; exact pay15_apply _ _ _ _ _ zero_f32 zero_f32 b i j f
  have h20 : ∀ (b : Fin 4) (i : Fin 16) (o : Fin 64), k0_pay20 acc.1 (ix2 ⟨b.val * 16 + i.val, by omega⟩ o) = s b i o := hacc
  have hsum : ∀ (b : Fin 4) (i : Fin 16) (o : Fin 64), sums X k acc.1 (ix2 ⟨b.val * 16 + i.val, by omega⟩ o) = hidden (x k.val) p s b i o :=
    fun b i o => pay21_apply (x k.val) p s _ _ _ _ _ _ _ _ _ _ _ _ (fun h => (cast64 _ h).trans (q.x3 h)) (fun h => (cast64 _ h).trans (q.x4 h))
      (fun h => (cast64 _ h).trans (q.x5 h)) (fun h => (cast64 _ h).trans (q.x6 h)) (fun h => (cast64 _ h).trans (q.x9 h)) hg
      (fun b i j f => by rw [← q.times k]; exact pay11_apply _ _ _ b i j f) (fun b i j f => by rw [← q.times k]; exact pay12_apply _ _ _ b i j f)
      (fun b i => by rw [← q.times k]; exact pay4_apply _ _ _ b i) h20 q.x7 q.x8 b i o _ rfl
  have hgi : ∀ (b : Fin 4) (i : Fin 16) (o : Fin 192),
      k0_pay22 (k0_pay31 X.x11) (gates X k) (sums X k acc.1) X.x10 X.x10 X.x10 X.x12 X.x14 (ix2 ⟨b.val * 16 + i.val, by omega⟩ o)
        = gi (x k.val) p s b i o :=
    fun b i o => pay22_apply (x k.val) p s hs _ _ _ _ _ _ (fun h => (cast64 _ h).trans (q.x11 h)) hg hsum q.x10 q.x12 q.x14 b i o _ rfl
  refine pay34_apply (x k.val) p s _ _ _ _ hacc hgi (fun b i o => pay23_apply p s _ _ _ h20 q.x13 q.x15 b i o _ rfl) ?_ b i o _ rfl
  intro b i o
  rw [← hgi b i]
  pointwise [k0_pay24]

/-- One trip adds the open gates of its time. -/
theorem trip_gates (q : Holds X x p Wc bc) (k : Fin k0_t1_loop.trips) (acc : FVec Ideal S64x64 .f32 × FVec Ideal S1x1 .f32) :
    (trip X k acc).2 (ix2 0 0) = acc.2 (ix2 0 0) + open_ (x k.val) := by
  rw [← q.times k]; exact pay16_apply _ _ _ _ _ zero_f32 zero_f32 acc.2

/-- The samples and the first layer's weights are finite. -/
structure Inputs (x : ℕ → Messages.Frame) (p : Weights) : Prop where
  raw : ∀ n b i, IsR ((x n).raw b i)
  W1 : ∀ h k, IsR (p.W1 h k)
  b1 : ∀ h, IsR (p.b1 h)

theorem Inputs.finite (f : Inputs x p) (n : ℕ) : Finite (x n) p (states x p n) :=
  ⟨f.raw n, f.W1, f.b1, states_isR x p n⟩

theorem carried_state (q : Holds X x p Wc bc) (f : Inputs x p) : ∀ n, n ≤ k0_t1_loop.trips → ∀ (b : Fin 4) (i : Fin 16) (o : Fin 64),
    (carried X n).1 (ix2 ⟨b.val * 16 + i.val, by omega⟩ o) = states x p n b i o
  | 0, _, b, i, o => by
    change k0_pay32 (F := Ideal) (ix2 (⟨b.val * 16 + i.val, by omega⟩ : Fin 64) o) = 0
    pointwise [k0_pay32]
  | n + 1, hn, b, i, o => by
    rw [show carried X (n + 1) = trip X ⟨n, hn⟩ (carried X n) from carried_succ X ⟨n, hn⟩]
    exact trip_state q ⟨n, hn⟩ _ _ (f.finite n) (carried_state q f n (Nat.le_of_succ_le hn)) b i o

theorem carried_gates (q : Holds X x p Wc bc) : ∀ n, n ≤ k0_t1_loop.trips → (carried X n).2 (ix2 0 0) = opened x n
  | 0, _ => by
    change k0_pay33 (F := Ideal) (ix2 0 0) = 0
    pointwise [k0_pay33]
  | n + 1, hn => by
    rw [show carried X (n + 1) = trip X ⟨n, hn⟩ (carried X n) from carried_succ X ⟨n, hn⟩, trip_gates q, carried_gates q n (Nat.le_of_succ_le hn)]
    rfl

theorem trips_eq : k0_t1_loop.trips = 16 := by decide +kernel

/-- The class scores that the body leaves are those of the states after sixteen steps. -/
theorem body_scores (q : Holds X x p Wc bc) (f : Inputs x p) (b c : Fin 4) :
    k0_pay35 (carried X k0_t1_loop.trips).1 X.x16 X.x17 (ix2 b c) = scores Wc bc (states x p 16) b c := by
  have h := carried_state q f _ le_rfl
  rw [trips_eq] at h ⊢
  exact pay35_apply _ Wc bc _ _ _ h q.x16 q.x17 b c

/-- The share that the body leaves is the open gates of sixteen steps over their number. -/
theorem body_share (q : Holds X x p Wc bc) :
    k0_pay1 (carried X k0_t1_loop.trips).2 (ix2 0 0) = Ideal.div (opened x 16) (Ideal.ofBits .f32 0x48700000#32) := by
  have h := carried_gates q _ le_rfl
  rw [trips_eq] at h ⊢
  pointwise [k0_pay1, h]

end Cert.KernelIdeal.Trip

end
-- ==== Proof.Times.lean ====
module

public import proofs.«01_k».proof.Proof.Maths

@[expose] public section

noncomputable section

namespace Cert.Messages

/-- The samples that step `n` reads, every eighth time. -/
def frameAt (wr wi : Fin 4 → Fin 16 → Fin 128 → Fin 16 → EReal) (raw : Fin 4 → Fin 16 → Fin 128 → EReal) (n : ℕ) : Frame where
  wr b i f := wr b i ⟨8 * (n % 16), by omega⟩ f
  wi b i f := wi b i ⟨8 * (n % 16), by omega⟩ f
  raw b i := raw b i ⟨8 * (n % 16), by omega⟩

theorem time_eq {n : ℕ} (h : n < 16) : (⟨8 * (n % 16), by omega⟩ : Fin 128) = ⟨8 * n, by omega⟩ :=
  Fin.ext (congrArg (8 * ·) (Nat.mod_eq_of_lt h))

end Cert.Messages

end
-- ==== Proof.KHold.lean ====
module

public import proofs.«01_k».proof.Proof.KArr
public import proofs.«01_k».proof.Proof.KLoop
public import proofs.«01_k».proof.Proof.Times
public import Idealize.ShloMosaic.Lib.Pipeline.ValueKit.Tiles

@[expose] public section

set_option maxRecDepth 16384

noncomputable section

namespace Cert.KernelIdeal.Trip

open Idealize.ShloMosaic Idealize.ShloMosaic.TcCoe Idealize.SL.Sem Cert.KernelIdeal Cert.KernelIdeal.Gen Cert.Messages

theorem at4_samples (w : Vec Ideal S4x16x128x16 .f32) (k : Fin k0_t1_loop.trips) (b : Fin 4) (i f : Fin 16) :
    at4 (samples4 w) k (ix4 0 b i f) = w (ix4 b i ⟨8 * (k.val % 16), by omega⟩ f) := by
  have hk : k.val < 16 := lt_of_lt_of_eq k.isLt trips_eq
  rw [time_eq hk]
  refine (View.ld_unit_apply_of (samples4 w) _ _ _ (ix4 0 b i f) (ix4 (⟨k.val, hk⟩ : Fin 16) b i f) fun a => ?_).trans ?_
  · refine Eq.trans ?_ (congrArg (· + _) (congrFun (k0_off1_eq k) a).symm)
    match a with
    | ⟨0, _⟩ => rfl
    | ⟨1, _⟩ => exact (Nat.zero_add _).symm
    | ⟨2, _⟩ => exact (Nat.zero_add _).symm
    | ⟨3, _⟩ => exact (Nat.zero_add _).symm
  · pointwise [samples4]

theorem at3_samples (w : Vec Ideal S4x16x128 .f32) (k : Fin k0_t1_loop.trips) (b : Fin 4) (i : Fin 16) :
    at3 (samples3 w) k (ix3 0 b i) = w (ix3 b i ⟨8 * (k.val % 16), by omega⟩) := by
  have hk : k.val < 16 := lt_of_lt_of_eq k.isLt trips_eq
  rw [time_eq hk]
  refine (View.ld_unit_apply_of (samples3 w) _ _ _ (ix3 0 b i) (ix3 (⟨k.val, hk⟩ : Fin 16) b i) fun a => ?_).trans ?_
  · refine Eq.trans ?_ (congrArg (· + _) (congrFun (k0_off2_eq k) a).symm)
    match a with
    | ⟨0, _⟩ => rfl
    | ⟨1, _⟩ => exact (Nat.zero_add _).symm
    | ⟨2, _⟩ => exact (Nat.zero_add _).symm
  · pointwise [samples3]

theorem column0_apply (w : Vec Ideal S64x132 .f32) (h : Fin 64) : column0 w (ix2 0 h) = w (ix2 h 0) := by pointwise [column0]
theorem column1_apply (w : Vec Ideal S64x132 .f32) (h : Fin 64) : column1 w (ix2 0 h) = w (ix2 h 1) := by pointwise [column1]
theorem column2_apply (w : Vec Ideal S64x132 .f32) (h : Fin 64) : column2 w (ix2 0 h) = w (ix2 h 2) := by pointwise [column2]
theorem column3_apply (w : Vec Ideal S64x132 .f32) (h : Fin 64) : column3 w (ix2 0 h) = w (ix2 h 3) := by pointwise [column3]
theorem columns4_apply (w : Vec Ideal S64x132 .f32) (k h : Fin 64) : columns4 w (ix2 k h) = w (ix2 h ⟨4 + k.val, by omega⟩) := by
  pointwise [columns4]
theorem columns68_apply (w : Vec Ideal S64x132 .f32) (k h : Fin 64) : columns68 w (ix2 k h) = w (ix2 h ⟨68 + k.val, by omega⟩) := by
  pointwise [columns68]
theorem row64_apply (w : Vec Ideal S64 .f32) (h : Fin 64) : row64 w (ix2 0 h) = w (ix1 h) := by pointwise [row64]
theorem row192_apply (w : Vec Ideal S192 .f32) (h : Fin 192) : row192 w (ix2 0 h) = w (ix1 h) := by pointwise [row192]
theorem row4_apply (w : Vec Ideal S4 .f32) (h : Fin 4) : row4 w (ix2 0 h) = w (ix1 h) := by pointwise [row4]
theorem turned64_apply (w : Vec Ideal S64x64 .f32) (k o : Fin 64) : turned64 w (ix2 k o) = w (ix2 o k) := by pointwise [turned64]
theorem turned192_apply (w : Vec Ideal S192x64 .f32) (k : Fin 64) (o : Fin 192) : turned192 w (ix2 k o) = w (ix2 o k) := by
  pointwise [turned192]
theorem turned4_apply (w : Vec Ideal S4x64 .f32) (k : Fin 64) (o : Fin 4) : turned4 w (ix2 k o) = w (ix2 o k) := by pointwise [turned4]

variable (m : (ℓ : Loc nD τ sig) → Buf (Elt Ideal) ℓ) (c : Dev nD)

/-- The arguments as arrays of values. -/
abbrev arg0 : Vec Ideal S4x16x128 .f32 := m ((c : Thread nD τ).loc main_arg0)
abbrev arg1 : Vec Ideal S4x16x128x16 .f32 := m ((c : Thread nD τ).loc main_arg1)
abbrev arg2 : Vec Ideal S4x16x128x16 .f32 := m ((c : Thread nD τ).loc main_arg2)
abbrev arg3 : Vec Ideal S64x132 .f32 := m ((c : Thread nD τ).loc main_arg3)
abbrev arg4 : Vec Ideal S64 .f32 := m ((c : Thread nD τ).loc main_arg4)
abbrev arg5 : Vec Ideal S64x64 .f32 := m ((c : Thread nD τ).loc main_arg5)
abbrev arg6 : Vec Ideal S64 .f32 := m ((c : Thread nD τ).loc main_arg6)
abbrev arg7 : Vec Ideal S192x64 .f32 := m ((c : Thread nD τ).loc main_arg7)
abbrev arg8 : Vec Ideal S192x64 .f32 := m ((c : Thread nD τ).loc main_arg8)
abbrev arg9 : Vec Ideal S192 .f32 := m ((c : Thread nD τ).loc main_arg9)
abbrev arg10 : Vec Ideal S192 .f32 := m ((c : Thread nD τ).loc main_arg10)
abbrev arg11 : Vec Ideal S4x64 .f32 := m ((c : Thread nD τ).loc main_arg11)
abbrev arg12 : Vec Ideal S4 .f32 := m ((c : Thread nD τ).loc main_arg12)

/-- The samples of the steps, and the weights. -/
def times : ℕ → Messages.Frame :=
  frameAt (fun b i t f => arg1 m c (ix4 b i t f)) (fun b i t f => arg2 m c (ix4 b i t f)) (fun b i t => arg0 m c (ix3 b i t))
def params : Weights where
  W1 h k := arg3 m c (ix2 h k)
  b1 h := arg4 m c (ix1 h)
  W2 o h := arg5 m c (ix2 o h)
  b2 o := arg6 m c (ix1 o)
  Wih o k := arg7 m c (ix2 o k)
  bih o := arg9 m c (ix1 o)
  Whh o k := arg8 m c (ix2 o k)
  bhh o := arg10 m c (ix1 o)
def classes (a : Fin 4) (k : Fin 64) : EReal := arg11 m c (ix2 a k)
def offsets (a : Fin 4) : EReal := arg12 m c (ix1 a)

theorem holds : Holds (blocks m c) (times m c) (params m c) (classes m c) (offsets m c) where
  times k := by
    unfold frame times frameAt
    refine congr (congr (congrArg Messages.Frame.mk ?_) ?_) ?_
    · funext b i f; exact at4_samples (arg1 m c) k b i f
    · funext b i f; exact at4_samples (arg2 m c) k b i f
    · funext b i; exact at3_samples (arg0 m c) k b i
  x3 h := column0_apply (arg3 m c) h
  x4 h := column1_apply (arg3 m c) h
  x5 h := column2_apply (arg3 m c) h
  x6 h := column3_apply (arg3 m c) h
  x7 k h := columns4_apply (arg3 m c) k h
  x8 k h := columns68_apply (arg3 m c) k h
  x9 h := row64_apply (arg4 m c) h
  x10 k o := turned64_apply (arg5 m c) k o
  x11 h := row64_apply (arg6 m c) h
  x12 k o := turned192_apply (arg7 m c) k o
  x13 k o := turned192_apply (arg8 m c) k o
  x14 o := row192_apply (arg9 m c) o
  x15 o := row192_apply (arg10 m c) o
  x16 k a := turned4_apply (arg11 m c) k a
  x17 a := row4_apply (arg12 m c) a

theorem scoresOut_apply (f : Inputs (times m c) (params m c)) (b a : Fin 4) :
    scoresOut m c (ix2 b a) = scores (classes m c) (offsets m c) (states (times m c) (params m c) 16) b a :=
  body_scores (holds m c) f b a

theorem shareOut_apply : shapeCast S_ (shareOut m c) shapeCasts_S1x1_S_ ix0 = Ideal.div (opened (times m c) 16) (Ideal.ofBits .f32 0x48700000#32) := by
  pointwise
  exact body_share (holds m c)

end Cert.KernelIdeal.Trip

end
-- ==== Proof.REdges.lean ====
module

public import proofs.«01_k».proof.Proof.Gen.ReferenceIdeal.Step
public import Idealize.ShloMosaic.Lib.Pointwise
public import proofs.«01_k».proof.Proof.Maths
public import Idealize.ShloMosaic.Lib.Routing.OpsPair

@[expose] public section

set_option maxRecDepth 16384

noncomputable section

namespace Cert.ReferenceIdeal.Step

open Idealize.ShloMosaic Cert.ReferenceIdeal Cert.ReferenceIdeal.Gen Cert.Messages

variable {F : FTy → Type} [FloatOps F]

theorem div15 (e : Fin 240) : IntOp.divsi .host (BitVec.ofNat 32 e.val) 15#32 = BitVec.ofNat 32 (src e).val := by
  decide +revert +kernel

theorem rem15 (e : Fin 240) :
    IntOp.addi (IntOp.remsi .host (BitVec.ofNat 32 e.val) 15#32)
      (BitVec.setWidth 32 (IntOp.cmpi .sge (IntOp.remsi .host (BitVec.ofNat 32 e.val) 15#32)
        (IntOp.divsi .host (BitVec.ofNat 32 e.val) 15#32))) = BitVec.ofNat 32 (dst e).val := by
  decide +revert +kernel

theorem wrap16 (n : Fin 16) :
    Scalar.select (IntOp.cmpi .slt (BitVec.ofNat 32 n.val) 0#32) (IntOp.addi (BitVec.ofNat 32 n.val) 16#32) (BitVec.ofNat 32 n.val)
      = BitVec.ofNat 32 n.val := by
  decide +revert +kernel

theorem clamp16 (n : Fin 16) : min (BitVec.ofNat 32 n.val).toInt.toNat 15 = n.val := by decide +revert +kernel

theorem b39_apply (j : ℕ) (s : State F) (e : Fin 240) : b39 j s (ix1 e) = BitVec.ofNat 32 (src e).val := by
  pointwise [b39, b38, b37, b36]
  exact div15 e

theorem b45_apply (j : ℕ) (s : State F) (e : Fin 240) : b45 j s (ix1 e) = BitVec.ofNat 32 (dst e).val := by
  pointwise [b45, b44, b43, b42, b41, b40, b39, b38, b37, b36]
  exact rem15 e

theorem b53_apply (j : ℕ) (s : State F) (e : Fin 240) : b53 j s (ix2 e 0) = BitVec.ofNat 32 (src e).val := by
  pointwise [b53, b52, b51, b50, b49, b48, b47, b46, b39_apply]
  exact wrap16 _

theorem b62_apply (j : ℕ) (s : State F) (e : Fin 240) : b62 j s (ix2 e 0) = BitVec.ofNat 32 (src e).val := by
  pointwise [b62, b61, b60, b59, b58, b57, b56, b55, b39_apply]
  exact wrap16 _

theorem b71_apply (j : ℕ) (s : State F) (e : Fin 240) : b71 j s (ix2 e 0) = BitVec.ofNat 32 (dst e).val := by
  pointwise [b71, b70, b69, b68, b67, b66, b65, b64, b45_apply]
  exact wrap16 _

theorem b80_apply (j : ℕ) (s : State F) (e : Fin 240) : b80 j s (ix2 e 0) = BitVec.ofNat 32 (dst e).val := by
  pointwise [b80, b79, b78, b77, b76, b75, b74, b73, b45_apply]
  exact wrap16 _

theorem b145_apply (j : ℕ) (s : State F) (e : Fin 240) : b145 j s (ix2 e 0) = BitVec.ofNat 32 (src e).val := by
  pointwise [b145, b144, b143, b142, b141, b140, b139, b138, b39_apply]
  exact wrap16 _

theorem b156_apply (j : ℕ) (s : State F) (e : Fin 240) : b156 j s (ix2 e 0) = BitVec.ofNat 32 (dst e).val := by
  pointwise [b156, b155, b154, b153, b152, b151, b150, b149, b45_apply]
  exact wrap16 _

theorem b167_apply (j : ℕ) (s : State F) (e : Fin 240) : b167 j s (ix2 e 0) = BitVec.ofNat 32 (src e).val := by
  pointwise [b167, b166, b165, b164, b163, b162, b161, b160, b39_apply]
  exact wrap16 _

theorem b178_apply (j : ℕ) (s : State F) (e : Fin 240) : b178 j s (ix2 e 0) = BitVec.ofNat 32 (dst e).val := by
  pointwise [b178, b177, b176, b175, b174, b173, b172, b171, b45_apply]
  exact wrap16 _

theorem b212_apply (j : ℕ) (s : State F) (e : Fin 240) : b212 j s (ix2 e 0) = BitVec.ofNat 32 (dst e).val := by
  pointwise [b212, b211, b210, b209, b208, b207, b206, b205, b45_apply]
  exact wrap16 _

/-- The rows a column of node numbers picks. -/
theorem gather_rows16 {α : Type} (x : S4x16x16.Idx → α) (idx : IVec S240x1 32) (b : Fin 4) (f : Fin 16) (e : Fin 240) (n : Fin 16)
    (h : idx (ix2 e 0) = BitVec.ofNat 32 n.val) :
    Host.gather gather_S4x16x16_S240x1_S4x240x16_02_1_n_n_1_1_4116 x idx (ix3 b e f) = x (ix3 b n f) := by
  have hs : (gather_S4x16x16_S240x1_S4x240x16_02_1_n_n_1_1_4116).siIdx (ix3 b e f) ⟨0, by decide⟩ = ix2 e 0 := by
    funext a
    match a with
    | ⟨0, _⟩ => rfl
    | ⟨1, _⟩ => rfl
  unfold Host.gather
  congr 1
  funext a
  apply Fin.ext
  change (gather_S4x16x16_S240x1_S4x240x16_02_1_n_n_1_1_4116).start _ _ a + (gather_S4x16x16_S240x1_S4x240x16_02_1_n_n_1_1_4116).batchCoord _ a + (gather_S4x16x16_S240x1_S4x240x16_02_1_n_n_1_1_4116).offCoord _ a = _
  rw [GatherDims.batchCoord_eq_zero _ _ _ (by simp [gather_S4x16x16_S240x1_S4x240x16_02_1_n_n_1_1_4116])]
  match a with
  | ⟨0, _⟩ =>
    change (gather_S4x16x16_S240x1_S4x240x16_02_1_n_n_1_1_4116).start _ _ (0 : Fin 3) + 0 + (gather_S4x16x16_S240x1_S4x240x16_02_1_n_n_1_1_4116).offCoord _ (0 : Fin 3) = _
    have s0 : (gather_S4x16x16_S240x1_S4x240x16_02_1_n_n_1_1_4116).start (ix3 b e f) idx (0 : Fin 3) = 0 :=
      dif_neg (show ((0 : Fin 3) ∉ ([1] : List (Fin 3))) by decide)
    rw [s0, Nat.add_zero, Nat.zero_add]
    rfl
  | ⟨1, _⟩ =>
    change (gather_S4x16x16_S240x1_S4x240x16_02_1_n_n_1_1_4116).start _ _ (1 : Fin 3) + 0 + (gather_S4x16x16_S240x1_S4x240x16_02_1_n_n_1_1_4116).offCoord _ (1 : Fin 3) = n.val
    rw [GatherDims.offCoord_eq_zero _ _ _ (show ((1 : Fin 3) ∉ (gather_S4x16x16_S240x1_S4x240x16_02_1_n_n_1_1_4116).sKept) by decide +kernel)]
    have s1 : (gather_S4x16x16_S240x1_S4x240x16_02_1_n_n_1_1_4116).start (ix3 b e f) idx (1 : Fin 3) = min (idx ((gather_S4x16x16_S240x1_S4x240x16_02_1_n_n_1_1_4116).siIdx (ix3 b e f) ⟨0, by decide⟩)).toInt.toNat 15 :=
      dif_pos (show (1 : Fin 3) ∈ ([1] : List (Fin 3)) by decide)
    rw [s1, hs, h, clamp16]
    omega
  | ⟨2, _⟩ =>
    change (gather_S4x16x16_S240x1_S4x240x16_02_1_n_n_1_1_4116).start _ _ (2 : Fin 3) + 0 + (gather_S4x16x16_S240x1_S4x240x16_02_1_n_n_1_1_4116).offCoord _ (2 : Fin 3) = _
    have s0 : (gather_S4x16x16_S240x1_S4x240x16_02_1_n_n_1_1_4116).start (ix3 b e f) idx (2 : Fin 3) = 0 :=
      dif_neg (show ((2 : Fin 3) ∉ ([1] : List (Fin 3))) by decide)
    rw [s0, Nat.add_zero, Nat.zero_add]
    rfl

/-- The rows a column of node numbers picks. -/
theorem gather_rows {α : Type} (x : S4x16.Idx → α) (idx : IVec S240x1 32) (b : Fin 4) (e : Fin 240) (n : Fin 16)
    (h : idx (ix2 e 0) = BitVec.ofNat 32 n.val) :
    Host.gather gather_S4x16_S240x1_S4x240_0_1_n_n_1_1_41 x idx (ix2 b e) = x (ix2 b n) := by
  have hs : (gather_S4x16_S240x1_S4x240_0_1_n_n_1_1_41).siIdx (ix2 b e) ⟨0, by decide⟩ = ix2 e 0 := by
    funext a
    match a with
    | ⟨0, _⟩ => rfl
    | ⟨1, _⟩ => rfl
  unfold Host.gather
  congr 1
  funext a
  apply Fin.ext
  change (gather_S4x16_S240x1_S4x240_0_1_n_n_1_1_41).start _ _ a + (gather_S4x16_S240x1_S4x240_0_1_n_n_1_1_41).batchCoord _ a + (gather_S4x16_S240x1_S4x240_0_1_n_n_1_1_41).offCoord _ a = _
  rw [GatherDims.batchCoord_eq_zero _ _ _ (by simp [gather_S4x16_S240x1_S4x240_0_1_n_n_1_1_41])]
  match a with
  | ⟨0, _⟩ =>
    change (gather_S4x16_S240x1_S4x240_0_1_n_n_1_1_41).start _ _ (0 : Fin 2) + 0 + (gather_S4x16_S240x1_S4x240_0_1_n_n_1_1_41).offCoord _ (0 : Fin 2) = _
    have s0 : (gather_S4x16_S240x1_S4x240_0_1_n_n_1_1_41).start (ix2 b e) idx (0 : Fin 2) = 0 :=
      dif_neg (show ((0 : Fin 2) ∉ ([1] : List (Fin 2))) by decide)
    rw [s0, Nat.add_zero, Nat.zero_add]
    rfl
  | ⟨1, _⟩ =>
    change (gather_S4x16_S240x1_S4x240_0_1_n_n_1_1_41).start _ _ (1 : Fin 2) + 0 + (gather_S4x16_S240x1_S4x240_0_1_n_n_1_1_41).offCoord _ (1 : Fin 2) = n.val
    rw [GatherDims.offCoord_eq_zero _ _ _ (show ((1 : Fin 2) ∉ (gather_S4x16_S240x1_S4x240_0_1_n_n_1_1_41).sKept) by decide +kernel)]
    have s1 : (gather_S4x16_S240x1_S4x240_0_1_n_n_1_1_41).start (ix2 b e) idx (1 : Fin 2) = min (idx ((gather_S4x16_S240x1_S4x240_0_1_n_n_1_1_41).siIdx (ix2 b e) ⟨0, by decide⟩)).toInt.toNat 15 :=
      dif_pos (show (1 : Fin 2) ∈ ([1] : List (Fin 2)) by decide)
    rw [s1, hs, h, clamp16]
    omega

/-- The rows a column of node numbers picks. -/
theorem gather_rows64 {α : Type} (x : S4x16x64.Idx → α) (idx : IVec S240x1 32) (b : Fin 4) (f : Fin 64) (e : Fin 240) (n : Fin 16)
    (h : idx (ix2 e 0) = BitVec.ofNat 32 n.val) :
    Host.gather gather_S4x16x64_S240x1_S4x240x64_02_1_n_n_1_1_4164 x idx (ix3 b e f) = x (ix3 b n f) := by
  have hs : (gather_S4x16x64_S240x1_S4x240x64_02_1_n_n_1_1_4164).siIdx (ix3 b e f) ⟨0, by decide⟩ = ix2 e 0 := by
    funext a
    match a with
    | ⟨0, _⟩ => rfl
    | ⟨1, _⟩ => rfl
  unfold Host.gather
  congr 1
  funext a
  apply Fin.ext
  change (gather_S4x16x64_S240x1_S4x240x64_02_1_n_n_1_1_4164).start _ _ a + (gather_S4x16x64_S240x1_S4x240x64_02_1_n_n_1_1_4164).batchCoord _ a + (gather_S4x16x64_S240x1_S4x240x64_02_1_n_n_1_1_4164).offCoord _ a = _
  rw [GatherDims.batchCoord_eq_zero _ _ _ (by simp [gather_S4x16x64_S240x1_S4x240x64_02_1_n_n_1_1_4164])]
  match a with
  | ⟨0, _⟩ =>
    change (gather_S4x16x64_S240x1_S4x240x64_02_1_n_n_1_1_4164).start _ _ (0 : Fin 3) + 0 + (gather_S4x16x64_S240x1_S4x240x64_02_1_n_n_1_1_4164).offCoord _ (0 : Fin 3) = _
    have s0 : (gather_S4x16x64_S240x1_S4x240x64_02_1_n_n_1_1_4164).start (ix3 b e f) idx (0 : Fin 3) = 0 :=
      dif_neg (show ((0 : Fin 3) ∉ ([1] : List (Fin 3))) by decide)
    rw [s0, Nat.add_zero, Nat.zero_add]
    rfl
  | ⟨1, _⟩ =>
    change (gather_S4x16x64_S240x1_S4x240x64_02_1_n_n_1_1_4164).start _ _ (1 : Fin 3) + 0 + (gather_S4x16x64_S240x1_S4x240x64_02_1_n_n_1_1_4164).offCoord _ (1 : Fin 3) = n.val
    rw [GatherDims.offCoord_eq_zero _ _ _ (show ((1 : Fin 3) ∉ (gather_S4x16x64_S240x1_S4x240x64_02_1_n_n_1_1_4164).sKept) by decide +kernel)]
    have s1 : (gather_S4x16x64_S240x1_S4x240x64_02_1_n_n_1_1_4164).start (ix3 b e f) idx (1 : Fin 3) = min (idx ((gather_S4x16x64_S240x1_S4x240x64_02_1_n_n_1_1_4164).siIdx (ix3 b e f) ⟨0, by decide⟩)).toInt.toNat 15 :=
      dif_pos (show (1 : Fin 3) ∈ ([1] : List (Fin 3)) by decide)
    rw [s1, hs, h, clamp16]
    omega
  | ⟨2, _⟩ =>
    change (gather_S4x16x64_S240x1_S4x240x64_02_1_n_n_1_1_4164).start _ _ (2 : Fin 3) + 0 + (gather_S4x16x64_S240x1_S4x240x64_02_1_n_n_1_1_4164).offCoord _ (2 : Fin 3) = _
    have s0 : (gather_S4x16x64_S240x1_S4x240x64_02_1_n_n_1_1_4164).start (ix3 b e f) idx (2 : Fin 3) = 0 :=
      dif_neg (show ((2 : Fin 3) ∉ ([1] : List (Fin 3))) by decide)
    rw [s0, Nat.add_zero, Nat.zero_add]
    rfl

/-- Where a row of updates lands. -/
theorem lands (idx : IVec S240x1 32) (n : Fin 240 → Fin 16) (h : ∀ e, idx (ix2 e 0) = BitVec.ofNat 32 (n e).val)
    (b b' : Fin 4) (e : Fin 240) (c : Fin 16) (f f' : Fin 64) :
    scatter_S4x16x64_S240x1_S4x240x64_02_1_1_1.resultIdx? (ix3 b e f) idx = some (ix3 b' c f') ↔ (b = b' ∧ n e = c) ∧ f = f' := by
  have hs : (scatter_S4x16x64_S240x1_S4x240x64_02_1_1_1).siIdx (ix3 b e f) ⟨0, by decide⟩ = ix2 e 0 := by
    funext a
    match a with
    | ⟨0, _⟩ => rfl
    | ⟨1, _⟩ => rfl
  have ht : (BitVec.ofNat 32 (n e).val).toInt = ((n e).val : ℤ) := by
    generalize n e = k; clear h hs; decide +revert +kernel
  have h0 : (scatter_S4x16x64_S240x1_S4x240x64_02_1_1_1).start (ix3 b e f) idx (0 : Fin 3) = 0 :=
    dif_neg (show ((0 : Fin 3) ∉ ([1] : List (Fin 3))) by decide)
  have h2 : (scatter_S4x16x64_S240x1_S4x240x64_02_1_1_1).start (ix3 b e f) idx (2 : Fin 3) = 0 :=
    dif_neg (show ((2 : Fin 3) ∉ ([1] : List (Fin 3))) by decide)
  have h1 : (scatter_S4x16x64_S240x1_S4x240x64_02_1_1_1).start (ix3 b e f) idx (1 : Fin 3) = ((n e).val : ℤ) := by
    have s1 : (scatter_S4x16x64_S240x1_S4x240x64_02_1_1_1).start (ix3 b e f) idx (1 : Fin 3)
        = (idx ((scatter_S4x16x64_S240x1_S4x240x64_02_1_1_1).siIdx (ix3 b e f) ⟨0, by decide⟩)).toInt :=
      dif_pos (show ((1 : Fin 3) ∈ ([1] : List (Fin 3))) by decide)
    rw [s1, hs, h, ht]
  have w0 : (scatter_S4x16x64_S240x1_S4x240x64_02_1_1_1).window (ix3 b e f) (0 : Fin 3) = b.val := rfl
  have w1 : (scatter_S4x16x64_S240x1_S4x240x64_02_1_1_1).window (ix3 b e f) (1 : Fin 3) = 0 := rfl
  have w2 : (scatter_S4x16x64_S240x1_S4x240x64_02_1_1_1).window (ix3 b e f) (2 : Fin 3) = f.val := rfl
  rw [Routing.resultIdx?_eq_some]
  constructor
  · intro q
    have q0 := q (0 : Fin 3)
    have q1 := q (1 : Fin 3)
    have q2 := q (2 : Fin 3)
    rw [h0, w0] at q0
    rw [h1, w1] at q1
    rw [h2, w2] at q2
    change _ = ((b'.val : ℕ) : ℤ) at q0
    change _ = ((c.val : ℕ) : ℤ) at q1
    change _ = ((f'.val : ℕ) : ℤ) at q2
    refine ⟨⟨Fin.ext ?_, Fin.ext ?_⟩, Fin.ext ?_⟩ <;> omega
  · rintro ⟨⟨rfl, rfl⟩, rfl⟩ a
    match a with
    | ⟨0, _⟩ => exact (congrArg₂ (· + ·) h0 (congrArg Nat.cast w0)).trans (by simp)
    | ⟨1, _⟩ => exact (congrArg₂ (· + ·) h1 (congrArg Nat.cast w1)).trans (by simp)
    | ⟨2, _⟩ => exact (congrArg₂ (· + ·) h2 (congrArg Nat.cast w2)).trans (by simp)

end Cert.ReferenceIdeal.Step
-- ==== Proof.RRead.lean ====
module

public import proofs.«01_k».proof.Proof.REdges

@[expose] public section

set_option maxRecDepth 16384

noncomputable section

namespace Cert.ReferenceIdeal.Step

open Idealize.ShloMosaic Idealize.ShloMosaic.TcCoe Cert.ReferenceIdeal Cert.ReferenceIdeal.Gen Cert.Messages

/-! ## The constants -/

theorem K3_apply (b : Fin 4) (e : Fin 240) (f : Fin 16) : K_main_v3 (F := Ideal) (ix3 b e f) = ((1 / 1000000000000 : ℝ) : EReal) := by
  pointwise [K_main_v3, K_main_v0, K_main_v2, K_main_v1, K_main_cst_0, K_main_cst]
  have h : Ideal.ofBits FTy.f32 1232348160#32 = ((1000000 : ℝ) : EReal) := by
    simp [Ideal.ofBits, Ideal.ieee]
    rw [← EReal.coe_mul, EReal.coe_eq_coe_iff]; norm_num
  rw [h, ← EReal.coe_mul]
  unfold Ideal.div
  rw [if_neg (by rw [show (0 : EReal) = ((0 : ℝ) : EReal) from rfl, EReal.coe_eq_coe_iff]; norm_num), one_mul, ← EReal.coe_inv]
  norm_num

theorem K4_apply (b : Fin 4) (e : Fin 240) (f : Fin 16) : K_main_v4 (F := Ideal) (ix3 b e f) = ((Real.pi * (1 / 4) : ℝ) : EReal) := by
  pointwise [K_main_v4, K_main_v0, K_main_cst]
  change ((if (0 : ℝ) < 1 then Real.arctan (1 / 1) else _ : ℝ) : EReal) = _
  rw [if_pos one_pos, div_one, Real.arctan_one, EReal.coe_eq_coe_iff]
  ring

/-! ## The samples of one time -/

theorem word8 (j : Fin 16) :
    Scalar.select (IntOp.cmpi .slt (IntOp.muli (BitVec.ofNat 32 j.val) 8#32) 0#32)
      (IntOp.addi (IntOp.muli (BitVec.ofNat 32 j.val) 8#32) 128#32) (IntOp.muli (BitVec.ofNat 32 j.val) 8#32)
      = BitVec.ofNat 32 (8 * j.val) := by
  decide +revert +kernel

theorem b9_apply (j : Fin 16) (s : State Ideal) (i : S_.Idx) : b9 j.val s i = BitVec.ofNat 32 (8 * j.val) := by
  pointwise [b9, b8, b7, b6, b5, b4, b3, b2]
  exact word8 j

theorem b20_apply (j : Fin 16) (s : State Ideal) (i : S_.Idx) : b20 j.val s i = BitVec.ofNat 32 (8 * j.val) := by
  pointwise [b20, b19, b18, b17, b16, b15, b3, b2]
  exact word8 j

theorem b31_apply (j : Fin 16) (s : State Ideal) (i : S_.Idx) : b31 j.val s i = BitVec.ofNat 32 (8 * j.val) := by
  pointwise [b31, b30, b29, b28, b27, b26, b3, b2]
  exact word8 j

theorem start8 (j : Fin 16) : (min (max (BitVec.ofNat 32 (8 * j.val)).toInt 0) (127 : Nat)).toNat = 8 * j.val := by
  decide +revert +kernel

theorem b14_apply (j : Fin 16) (s : State Ideal) (b : Fin 4) (n f : Fin 16) :
    b14 j.val s (ix3 b n f) = s.main_v6_0 (ix4 b n ⟨8 * j.val, by omega⟩ f) := by
  pointwise [b14, b13]
  refine congrArg s.main_v6_0 ((ix4_inj _ _ _ _ _ _ _ _).2 ⟨Fin.ext ?_, Fin.ext ?_, Fin.ext ?_, Fin.ext ?_⟩)
  · exact Nat.zero_add b.val
  · exact Nat.zero_add n.val
  · change (min (max (BitVec.toInt (b9 j.val s _)) 0) (127 : Nat)).toNat = 8 * j.val
    rw [b9_apply]
    exact start8 j
  · exact Nat.zero_add f.val

theorem b25_apply (j : Fin 16) (s : State Ideal) (b : Fin 4) (n f : Fin 16) :
    b25 j.val s (ix3 b n f) = s.main_v6_1 (ix4 b n ⟨8 * j.val, by omega⟩ f) := by
  pointwise [b25, b24]
  refine congrArg s.main_v6_1 ((ix4_inj _ _ _ _ _ _ _ _).2 ⟨Fin.ext ?_, Fin.ext ?_, Fin.ext ?_, Fin.ext ?_⟩)
  · exact Nat.zero_add b.val
  · exact Nat.zero_add n.val
  · change (min (max (BitVec.toInt (b20 j.val s _)) 0) (127 : Nat)).toNat = 8 * j.val
    rw [b20_apply]
    exact start8 j
  · exact Nat.zero_add f.val

theorem b35_apply (j : Fin 16) (s : State Ideal) (b : Fin 4) (n : Fin 16) :
    b35 j.val s (ix2 b n) = s.main_v6_2 (ix3 b n ⟨8 * j.val, by omega⟩) := by
  pointwise [b35, b34]
  refine congrArg s.main_v6_2 ((ix3_inj _ _ _ _ _ _).2 ⟨Fin.ext ?_, Fin.ext ?_, Fin.ext ?_⟩)
  · exact Nat.zero_add b.val
  · exact Nat.zero_add n.val
  · change (min (max (BitVec.toInt (b31 j.val s _)) 0) (127 : Nat)).toNat = 8 * j.val
    rw [b31_apply]
    exact start8 j

/-! ## What a trip reads, as the mathematics names it -/

/-- The samples of trip `j`. -/
def frame (j : Fin 16) (s : State Ideal) : Messages.Frame where
  wr := fun b n f => s.main_v6_0 (ix4 b n ⟨8 * j.val, by omega⟩ f)
  wi := fun b n f => s.main_v6_1 (ix4 b n ⟨8 * j.val, by omega⟩ f)
  raw := fun b n => s.main_v6_2 (ix3 b n ⟨8 * j.val, by omega⟩)

/-- The weights. -/
def weights (s : State Ideal) : Weights where
  W1 := fun h k => s.main_v6_5 (ix2 h k)
  b1 := fun h => s.main_v6_6 (ix1 h)
  W2 := fun h k => s.main_v6_7 (ix2 h k)
  b2 := fun h => s.main_v6_8 (ix1 h)
  Wih := fun h k => s.main_v6_9 (ix2 h k)
  bih := fun h => s.main_v6_10 (ix1 h)
  Whh := fun h k => s.main_v6_11 (ix2 h k)
  bhh := fun h => s.main_v6_12 (ix1 h)

/-- The nodes' states. -/
def nodes (s : State Ideal) : Nodes := fun b n k => s.main_v6_15 (ix3 b n k)

variable (j : Fin 16) (s : State Ideal)

theorem b54_apply (b : Fin 4) (e : Fin 240) (f : Fin 16) : b54 j.val s (ix3 b e f) = (frame j s).wr b (src e) f :=
  (gather_rows16 _ _ b f e _ (b53_apply _ s e)).trans (b14_apply j s b _ f)
theorem b63_apply (b : Fin 4) (e : Fin 240) (f : Fin 16) : b63 j.val s (ix3 b e f) = (frame j s).wi b (src e) f :=
  (gather_rows16 _ _ b f e _ (b62_apply _ s e)).trans (b25_apply j s b _ f)
theorem b72_apply (b : Fin 4) (e : Fin 240) (f : Fin 16) : b72 j.val s (ix3 b e f) = (frame j s).wr b (dst e) f :=
  (gather_rows16 _ _ b f e _ (b71_apply _ s e)).trans (b14_apply j s b _ f)
theorem b81_apply (b : Fin 4) (e : Fin 240) (f : Fin 16) : b81 j.val s (ix3 b e f) = (frame j s).wi b (dst e) f :=
  (gather_rows16 _ _ b f e _ (b80_apply _ s e)).trans (b25_apply j s b _ f)
theorem b146_apply (b : Fin 4) (e : Fin 240) : b146 j.val s (ix2 b e) = (frame j s).raw b (src e) :=
  (gather_rows _ _ b e _ (b145_apply _ s e)).trans (b35_apply j s b _)
theorem b157_apply (b : Fin 4) (e : Fin 240) : b157 j.val s (ix2 b e) = (frame j s).raw b (dst e) :=
  (gather_rows _ _ b e _ (b156_apply _ s e)).trans (b35_apply j s b _)
theorem b168_apply (b : Fin 4) (e : Fin 240) (k : Fin 64) : b168 j.val s (ix3 b e k) = nodes s b (src e) k :=
  gather_rows64 _ _ b k e _ (b167_apply _ s e)
theorem b179_apply (b : Fin 4) (e : Fin 240) (k : Fin 64) : b179 j.val s (ix3 b e k) = nodes s b (dst e) k :=
  gather_rows64 _ _ b k e _ (b178_apply _ s e)

theorem b84_apply (b : Fin 4) (e : Fin 240) (f : Fin 16) : b84 j.val s (ix3 b e f) = re (frame j s) b (src e) (dst e) f := by
  pointwise [b84, b83, b82, b54_apply, b63_apply, b72_apply, b81_apply, re]

theorem b87_apply (b : Fin 4) (e : Fin 240) (f : Fin 16) : b87 j.val s (ix3 b e f) = im (frame j s) b (src e) (dst e) f := by
  pointwise [b87, b86, b85, b54_apply, b63_apply, b72_apply, b81_apply, im]

theorem b93_apply (b : Fin 4) (e : Fin 240) (f : Fin 16) : b93 j.val s (ix3 b e f) = angle (frame j s) b (src e) (dst e) f := by
  pointwise [b93, b84_apply, b87_apply, angle]

theorem b92_apply (b : Fin 4) (e : Fin 240) (f : Fin 16) :
    b92 j.val s (ix3 b e f) = Ideal.sqrt (re (frame j s) b (src e) (dst e) f * re (frame j s) b (src e) (dst e) f
      + im (frame j s) b (src e) (dst e) f * im (frame j s) b (src e) (dst e) f + ((1 / 1000000000000 : ℝ) : EReal)) := by
  pointwise [b92, b91, b90, b89, b88, b84_apply, b87_apply, K3_apply]

theorem b125_apply (b : Fin 4) (e : Fin 240) (f : Fin 16) : b125 j.val s (ix3 b e f) = mag (frame j s) b (src e) (dst e) f := by
  pointwise [b125, b124, b123, b122, b121, b120, b119, b118, b117, b116, b115, b114]
  exact (clean_tests _).trans (congrArg clean (b92_apply j s b e f))

theorem b137_apply (b : Fin 4) (e : Fin 240) (f : Fin 16) :
    b137 j.val s (ix3 b e f) = clean (angle (frame j s) b (src e) (dst e) f) := by
  pointwise [b137, b136, b135, b134, b133, b132, b131, b130, b129, b128, b127, b126]
  exact (clean_tests _).trans (congrArg clean (b93_apply j s b e f))

theorem b98_apply (b : Fin 4) (e : Fin 240) (f : Fin 16) : b98 j.val s (ix3 b e f) = gate (frame j s) b (src e) (dst e) f := by
  pointwise [b98, b97, b96, b95, b94, b93_apply, K4_apply, gate]
  split
  · next h => rw [decide_eq_true h]; change ((1 : ℕ) : EReal) = 1; exact Nat.cast_one
  · next h => rw [decide_eq_false h]; change ((0 : ℕ) : EReal) = 0; exact Nat.cast_zero

theorem b110_apply (b : Fin 4) (e : Fin 240) (f : Fin 16) : b110 j.val s (ix3 b e f) = gate (frame j s) b (src e) (dst e) f := by
  pointwise [b110, b109, b108, b107, b106, b105, b104, b103, b102, b101, b100, b99]
  exact (clean_tests _).trans ((congrArg clean (b98_apply j s b e f)).trans (clean_of_IsR (gate_bit _ _ _ _ _).isR))

theorem b113_apply : b113 j.val s ix0 = s.main_v6_16 ix0 + open_ (frame j s) := by
  pointwise [b113, b112, b111, b110_apply]
  exact congrArg (s.main_v6_16 ix0 + ·) (open_edges (frame j s))

/-! The first layer's row, piece by piece. -/

theorem b184_0 (b : Fin 4) (e : Fin 240) (f : Fin 16) : b184 j.val s (ix4 b e f 0) = mag (frame j s) b (src e) (dst e) f := by
  pointwise [b184, b182, b125_apply]

theorem b184_1 (b : Fin 4) (e : Fin 240) (f : Fin 16) : b184 j.val s (ix4 b e f 1) = clean (angle (frame j s) b (src e) (dst e) f) := by
  pointwise [b184, b183, b137_apply]

theorem b184_2 (b : Fin 4) (e : Fin 240) (f : Fin 16) : b184 j.val s (ix4 b e f 2) = (frame j s).raw b (src e) := by
  pointwise [b184, b148, b147, b146_apply]

theorem b184_3 (b : Fin 4) (e : Fin 240) (f : Fin 16) : b184 j.val s (ix4 b e f 3) = (frame j s).raw b (dst e) := by
  pointwise [b184, b159, b158, b157_apply]

theorem b184_src (b : Fin 4) (e : Fin 240) (f : Fin 16) (k : Fin 64) :
    b184 j.val s (ix4 b e f ⟨4 + k.val, by omega⟩) = nodes s b (src e) k := by
  pointwise [b184, b170, b169, b168_apply]
  rw [dif_neg (by omega), dif_neg (by omega), dif_neg (by omega), dif_neg (by omega), dif_pos (by omega)]
  exact congrArg (nodes s b (src e)) (Fin.ext (by change 4 + k.val - 1 - 1 - 1 - 1 = k.val; omega))

theorem b184_dst (b : Fin 4) (e : Fin 240) (f : Fin 16) (k : Fin 64) :
    b184 j.val s (ix4 b e f ⟨68 + k.val, by omega⟩) = nodes s b (dst e) k := by
  pointwise [b184, b181, b180, b179_apply]
  rw [dif_neg (by omega), dif_neg (by omega), dif_neg (by omega), dif_neg (by omega), dif_neg (by omega)]
  exact congrArg (nodes s b (dst e)) (Fin.ext (by change 68 + k.val - 1 - 1 - 1 - 1 - 64 = k.val; omega))

theorem b192_apply (b : Fin 4) (e : Fin 240) (f : Fin 16) (h : Fin 64) :
    b192 j.val s (ix4 b e f h) = act (frame j s) (weights s) (nodes s) b (src e) (dst e) f h := by
  pointwise [b192, b191, b190, b189, b188, b187, b186, b185]
  rw [sum132]
  simp only [b184_0, b184_1, b184_2, b184_3, b184_src, b184_dst]
  unfold act
  refine congrArg (fun z => max z 0) ?_
  change _ = (_ * s.main_v6_5 (ix2 h 0) + _ * s.main_v6_5 (ix2 h 1)) + (_ * s.main_v6_5 (ix2 h 2) + _ + (_ * s.main_v6_5 (ix2 h 3) + _)
    + s.main_v6_6 (ix1 h))
  simp only [weights]
  abel

theorem b202_apply (b : Fin 4) (e : Fin 240) (o : Fin 64) :
    b202 j.val s (ix3 b e o) = ∑ f, (∑ h, act (frame j s) (weights s) (nodes s) b (src e) (dst e) f h * (weights s).W2 o h
      + (weights s).b2 o) * gate (frame j s) b (src e) (dst e) f := by
  pointwise [b202, b201, b200, b199, b198, b197, b196, b195, b194, b193, b192_apply, b110_apply]
  rfl

theorem b213_apply (b : Fin 4) (n : Fin 16) (o : Fin 64) : b213 j.val s (ix3 b n o) = agg (frame j s) (weights s) (nodes s) b n o := by
  change b204 j.val s (ix3 b n o) + ∑ i ∈ Finset.univ.filter
    (fun i => scatter_S4x16x64_S240x1_S4x240x64_02_1_1_1.resultIdx? i (b212 j.val s) = some (ix3 b n o)), b202 j.val s i = _
  have h0 : b204 j.val s (ix3 b n o) = 0 := by pointwise [b204, b203]
  rw [h0, zero_add, Finset.sum_filter, sum_idx3]
  simp only [lands _ _ (b212_apply j.val s)]
  rw [Finset.sum_eq_single b (fun b' _ hb => by simp [hb]) (by simp)]
  rw [← agg_edges, Finset.sum_filter]
  refine Finset.sum_congr rfl fun e _ => ?_
  rw [Finset.sum_eq_single o (fun o' _ ho => by simp [ho]) (by simp)]
  by_cases h : dst e = n
  · rw [if_pos h, if_pos ⟨⟨rfl, h⟩, rfl⟩, b202_apply]
  · rw [if_neg h, if_neg (fun q => h q.1.2)]

theorem b220_apply (b : Fin 4) (n : Fin 16) (o : Fin 192) (r : Fin 64) (hr : r = ⟨b.val * 16 + n.val, by omega⟩) :
    b220 j.val s (ix2 r o) = gi (frame j s) (weights s) (nodes s) b n o := by
  subst hr
  pointwise [b220, b219, b218, b217, b216, b214, b213_apply, gi]
  rfl

theorem b225_apply (b : Fin 4) (n : Fin 16) (o : Fin 192) (r : Fin 64) (hr : r = ⟨b.val * 16 + n.val, by omega⟩) :
    b225 j.val s (ix2 r o) = gh (weights s) (nodes s) b n o := by
  subst hr
  pointwise [b225, b224, b223, b222, b221, b215, gh]
  rfl

theorem b259_apply (b : Fin 4) (n : Fin 16) (o : Fin 64) : b259 j.val s (ix3 b n o) = next (frame j s) (weights s) (nodes s) b n o := by
  pointwise [b259, b258, b257, b256, b255, b254, b253, b252, b251, b250, b249, b248, b247, b246, b245, b244, b243, b242, b241, b240, b239, b238, b237, b236, b235, b234, b233, b232, b231, b230, b229, b228, b227, b226, b215]
  simp only [b220_apply j s b n _ _ rfl, b225_apply j s b n _ _ rfl]
  rfl

end Cert.ReferenceIdeal.Step
-- ==== Proof.RLoop.lean ====
module

public import proofs.«01_k».proof.Proof.RRead
public import proofs.«01_k».proof.Proof.Times
public import proofs.«01_k».proof.Proof.Gen.ReferenceIdeal.StepRun

@[expose] public section

set_option maxRecDepth 16384

noncomputable section

namespace Cert.ReferenceIdeal.Step

open Idealize.ShloMosaic Idealize.ShloMosaic.TcCoe Cert.ReferenceIdeal Cert.ReferenceIdeal.Gen Cert.Messages
open Cert.ReferenceIdeal.StepRun (initState)

section

variable {F : FTy → Type} [FloatOps F]
variable (m : (ℓ : Loc nD τ sig) → Buf (Elt F) ℓ) (c : Dev nD)

/-- The states before each trip. -/
def iter : ℕ → State F
  | 0 => initState m c
  | n + 1 => step n (iter n)

/-- The trip changes the carried state alone. -/
structure Kept (s t : State F) : Prop where
  k0 : s.main_v6_0 = t.main_v6_0
  k1 : s.main_v6_1 = t.main_v6_1
  k2 : s.main_v6_2 = t.main_v6_2
  k5 : s.main_v6_5 = t.main_v6_5
  k6 : s.main_v6_6 = t.main_v6_6
  k7 : s.main_v6_7 = t.main_v6_7
  k8 : s.main_v6_8 = t.main_v6_8
  k9 : s.main_v6_9 = t.main_v6_9
  k10 : s.main_v6_10 = t.main_v6_10
  k11 : s.main_v6_11 = t.main_v6_11
  k12 : s.main_v6_12 = t.main_v6_12

theorem kept : ∀ n, Kept (iter m c n) (initState m c)
  | 0 => ⟨rfl, rfl, rfl, rfl, rfl, rfl, rfl, rfl, rfl, rfl, rfl⟩
  | n + 1 => by
    obtain ⟨h0, h1, h2, h5, h6, h7, h8, h9, h10, h11, h12⟩ := kept n
    exact ⟨h0, h1, h2, h5, h6, h7, h8, h9, h10, h11, h12⟩

end

variable (m : (ℓ : Loc nD τ sig) → Buf (Elt Ideal) ℓ) (c : Dev nD)

/-- The samples of the steps. -/
def times : ℕ → Messages.Frame :=
  frameAt (fun b i t f => (initState m c).main_v6_0 (ix4 b i t f)) (fun b i t f => (initState m c).main_v6_1 (ix4 b i t f))
    (fun b i t => (initState m c).main_v6_2 (ix3 b i t))

theorem frame_iter (n : ℕ) (j : Fin 16) : frame j (iter m c n) = times m c j.val := by
  obtain ⟨h0, h1, h2, _⟩ := kept m c n
  unfold frame times frameAt
  rw [h0, h1, h2, time_eq j.isLt]

theorem weights_iter (n : ℕ) : weights (iter m c n) = weights (initState m c) := by
  obtain ⟨_, _, _, h5, h6, h7, h8, h9, h10, h11, h12⟩ := kept m c n
  unfold weights
  rw [h5, h6, h7, h8, h9, h10, h11, h12]

theorem nodes_iter : ∀ n, n ≤ 16 → nodes (iter m c n) = states (times m c) (weights (initState m c)) n
  | 0, _ => by
    funext b i k
    change K_main_v5 (F := Ideal) (ix3 b i k) = 0
    pointwise [K_main_v5, K_main_cst_1]
  | n + 1, h => by
    have ih := nodes_iter n (by omega)
    funext b i k
    change (step n (iter m c n)).main_v6_15 (ix3 b i k) = next (times m c n) (weights (initState m c)) (states (times m c) (weights (initState m c)) n) b i k
    rw [step_main_v6_15]
    refine (b259_apply (⟨n, by omega⟩ : Fin 16) (iter m c n) b i k).trans ?_
    rw [frame_iter, weights_iter, ih]

theorem gates_iter : ∀ n, n ≤ 16 → (iter m c n).main_v6_16 ix0 = opened (times m c) n
  | 0, _ => by
    change K_main_cst_2 (F := Ideal) ix0 = 0
    pointwise [K_main_cst_2]
  | n + 1, h => by
    have ih := gates_iter n (by omega)
    change (step n (iter m c n)).main_v6_16 ix0 = opened (times m c) n + open_ (times m c n)
    rw [step_main_v6_16]
    refine (b113_apply (⟨n, by omega⟩ : Fin 16) (iter m c n)).trans ?_
    rw [frame_iter, ih]

theorem scoresOut_apply (w : (⟨S4x64, .f32⟩ : BufTy).Contents (Elt Ideal)) (v : (⟨S4, .f32⟩ : BufTy).Contents (Elt Ideal)) (b a : Fin 4) :
    R_main_v14 (iter m c 16) w v (ix2 b a)
      = scores (fun a k => w (ix2 a k)) (fun a => v (ix1 a)) (states (times m c) (weights (initState m c)) 16) b a := by
  rw [← nodes_iter m c 16 le_rfl]
  pointwise [R_main_v14, scores, nodes]

theorem shareOut_apply : R_main_v15 (iter m c 16) ix0 = Ideal.div (opened (times m c) 16) (Ideal.ofBits .f32 0x48700000#32) := by
  rw [← gates_iter m c 16 le_rfl]
  pointwise [R_main_v15]

end Cert.ReferenceIdeal.Step

end
-- ==== Proof.Payload.lean ====
module

public import proofs.«01_k».proof.Pre_finite_payload
public import proofs.«01_k».proof.Proof.Maths
public import Idealize.ShloMosaic.Lib.Affine
public import Idealize.ShloMosaic.Lib.Pointwise

@[expose] public section

set_option maxRecDepth 16384

noncomputable section

namespace Cert.Pre_finite_payload

open Idealize.ShloMosaic Cert.Messages

theorem shapes : Facts where
  bcast_S_S4x16x128 := by decide
  reducesTo_S4x16x128_S_d0_1_2 := by decide
  h_S_ := by decide
  bcast_S_S64x132 := by decide
  reducesTo_S64x132_S_d0_1 := by decide
  bcast_S_S64 := by decide
  reducesTo_S64_S_d0 := by decide

theorem fold_and {α : Type} (x : α → BitVec 1) : ∀ (l : List α) (r : BitVec 1),
    l.foldl (fun r n => IntOp.andi r (x n)) r = 1#1 → r = 1#1 ∧ ∀ n ∈ l, x n = 1#1
  | [], _, h => ⟨h, by simp⟩
  | a :: l, r, h => by
    obtain ⟨h1, h2⟩ := fold_and x l _ h
    obtain ⟨h3, h4⟩ := IntOp.andi_eq_one.mp h1
    exact ⟨h3, fun n hn => (List.mem_cons.mp hn).elim (fun e => e ▸ h4) (h2 n)⟩

theorem all_ones {s : Shape} {axes : List (Fin s.rank)} (x : IVec s 1) (v : IVec S_ 1) (h : s.ReducesTo axes S_) (hu : 0 < S_.numel)
    (j : S_.Idx) (e : Host.reduce IntOp.andi x v h hu j = 1#1) (i : s.Idx) : x i = 1#1 := by
  have q := (fold_and _ _ _ e).2 (s.rowMajor i) (List.mem_filter.mpr ⟨List.mem_finRange _, by
    have : ∀ a b : S_.Idx, a = b := fun a b => funext fun k => k.elim0
    simpa using this _ _⟩)
  simpa using q

/-- An absolute value below the word of infinity is a real's. -/
theorem isR_of_lt (x : EReal) (h : Ideal.cmp .olt (max x (-x)) (Ideal.ofBits .f32 0x7F800000#32) = 1#1) : IsR x := by
  have top : Ideal.ofBits .f32 0x7F800000#32 = ⊤ := by simp [Ideal.ofBits, Ideal.ieee]
  rw [top] at h
  induction x with
  | bot => simp [Ideal.cmp] at h
  | top => simp [Ideal.cmp] at h
  | coe r => exact ⟨r, rfl⟩

theorem finite_of_pre [Facts] (a0 : FVec Ideal S4x16x128 .f32) (a1 a2 a3 a4 a5 a6 a7 a8 a9 a10 a11 a12)
    (h : fn (F := Ideal) a0 a1 a2 a3 a4 a5 a6 a7 a8 a9 a10 a11 a12 = fun _ => 1#1) :
    (∀ i, IsR (a0 i)) ∧ (∀ i, IsR (a3 i)) ∧ ∀ i, IsR (a4 i) := by
  have e := congrFun h ix0
  unfold fn at e
  dsimp only at e
  obtain ⟨e1, e4⟩ := IntOp.andi_eq_one.mp e
  obtain ⟨e0, e3⟩ := IntOp.andi_eq_one.mp e1
  refine ⟨fun i => ?_, fun i => ?_, fun i => ?_⟩
  · exact isR_of_lt _ (all_ones _ _ _ _ _ e0 i)
  · exact isR_of_lt _ (all_ones _ _ _ _ _ e3 i)
  · exact isR_of_lt _ (all_ones _ _ _ _ _ e4 i)

end Cert.Pre_finite_payload

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.StepRun
public import proofs.«01_k».proof.Proof.KHold
public import proofs.«01_k».proof.Proof.RLoop
public import proofs.«01_k».proof.Proof.Payload
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The named constants are those that the printed words round. -/
theorem preserves : Cert.preserves_Kernel_KernelIdeal :=
  ⟨IdealRules.named_const.statement Cert.KernelIdeal.κ "eps" .f32 0x2B8CBCCC#32 ((1 / 1000000000000 : ℝ) : EReal) rfl,
    IdealRules.named_const.statement Cert.KernelIdeal.κ "theta" .f32 0x3F490FDB#32 ((Real.pi * (1 / 4) : ℝ) : EReal) rfl⟩

theorem frame_reference : Cert.quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩)
    (Cert.ReferenceIdeal.StepRun.run_iter (F := Ideal) m g (fun c => Cert.ReferenceIdeal.Step.iter m c) (fun _ => rfl) (fun _ _ => rfl))

/-- The kernel leaves what the reference leaves, in both results. -/
theorem algebraic : Cert.algebraic_KernelIdeal_ReferenceIdeal_pre_finite_payload (hKernelIdeal := Cert.KernelIdeal.Gen.facts)
    (hReferenceIdeal := Cert.ReferenceIdeal.Gen.facts) (hPre_finite_payload := Cert.Pre_finite_payload.shapes) := by
  intro m g m' g' hpre hagree
  refine ⟨fun c => Cert.KernelIdeal.Trip.scoresOut m c,
    fun c => shapeCast Cert.KernelIdeal.S_ (Cert.KernelIdeal.Trip.shareOut m c) Cert.KernelIdeal.Gen.facts.shapeCasts_S1x1_S_, ?_, ?_⟩
  · exact (θ_run _ _ _).mono (fun _ h c => ⟨(h c).1.1, (h c).1.2, (h c).2⟩) (Cert.KernelIdeal.Trip.run (F := Ideal) m g)
  · refine (θ_run _ _ _).mono (fun _ h c => ?_)
      (Cert.ReferenceIdeal.StepRun.run_iter (F := Ideal) m' g' (fun c => Cert.ReferenceIdeal.Step.iter m' c) (fun _ => rfl) (fun _ _ => rfl))
    obtain ⟨a0, a1, a2, a3, a4, a5, a6, a7, a8, a9, a10, a11, a12⟩ := hagree c
    obtain ⟨p0, p3, p4⟩ := @Cert.Pre_finite_payload.finite_of_pre Cert.Pre_finite_payload.shapes _ _ _ _ _ _ _ _ _ _ _ _ _ (hpre c)
    have ht : Cert.ReferenceIdeal.Step.times m' c = Cert.KernelIdeal.Trip.times m c := by
      unfold Cert.ReferenceIdeal.Step.times Cert.KernelIdeal.Trip.times
      exact congr (congr (congrArg Cert.Messages.frameAt (congrArg (fun v b i t f => v (ix4 b i t f)) a1))
        (congrArg (fun v b i t f => v (ix4 b i t f)) a2)) (congrArg (fun v b i t => v (ix3 b i t)) a0)
    have hw : Cert.ReferenceIdeal.Step.weights (Cert.ReferenceIdeal.StepRun.initState m' c) = Cert.KernelIdeal.Trip.params m c := by
      unfold Cert.ReferenceIdeal.Step.weights Cert.KernelIdeal.Trip.params
      refine congr (congr (congr (congr (congr (congr (congr (congrArg Cert.Messages.Weights.mk ?_) ?_) ?_) ?_) ?_) ?_) ?_) ?_
      · exact congrArg (fun v h k => v (ix2 h k)) a3
      · exact congrArg (fun v h => v (ix1 h)) a4
      · exact congrArg (fun v h k => v (ix2 h k)) a5
      · exact congrArg (fun v h => v (ix1 h)) a6
      · exact congrArg (fun v h k => v (ix2 h k)) a7
      · exact congrArg (fun v h => v (ix1 h)) a9
      · exact congrArg (fun v h k => v (ix2 h k)) a8
      · exact congrArg (fun v h => v (ix1 h)) a10
    have hf : Cert.KernelIdeal.Trip.Inputs (Cert.KernelIdeal.Trip.times m c) (Cert.KernelIdeal.Trip.params m c) :=
      ⟨fun n b i => p0 _, fun h k => p3 _, fun h => p4 _⟩
    refine ⟨(h c).1.trans ?_, (h c).2.1.trans ?_, (h c).2.2⟩
    · funext i
      rw [show i = ix2 (i 0) (i 1) from eq_ix2 i]
      refine (Cert.ReferenceIdeal.Step.scoresOut_apply m' c _ _ (i 0) (i 1)).trans ?_
      refine Eq.trans ?_ (Cert.KernelIdeal.Trip.scoresOut_apply m c hf (i 0) (i 1)).symm
      rw [ht, hw, a11, a12]
      rfl
    · funext i
      rw [show i = ix0 from funext fun k => k.elim0]
      refine (Cert.ReferenceIdeal.Step.shareOut_apply m' c).trans ?_
      rw [ht]
      exact (Cert.KernelIdeal.Trip.shareOut_apply m c).symm

theorem claim : Cert.Claim :=
  ⟨Cert.Kernel.Gen.facts, Cert.KernelIdeal.Gen.facts, Cert.ReferenceIdeal.Gen.facts, Cert.Pre_finite_payload.shapes,
    fun m g _ => Cert.Kernel.Gen.frame m g, fun m g _ => Cert.KernelIdeal.Gen.frame m g, fun m g _ => Cert.KernelIdeal.Gen.frame m g,
    frame_reference, fun m g _ => frame_reference m g trivial, preserves, algebraic⟩

end Cert.Proof

end
